-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerReferenceIdeal (m : (ℓ : Loc Cert.PeerReferenceIdeal.nD Cert.PeerReferenceIdeal.τ Cert.PeerReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6)
      ∧ r.2.mem ((c.tc : Thread Cert.Peer.nD Cert.Peer.τ).loc Cert.Peer.main_arg7) = m ((c.tc : Thread Cert.Peer.nD Cert.Peer.τ).loc Cert.Peer.main_arg7)
      ∧ r.2.mem ((c.tc : Thread Cert.Peer.nD Cert.Peer.τ).loc Cert.Peer.main_arg8) = m ((c.tc : Thread Cert.Peer.nD Cert.Peer.τ).loc Cert.Peer.main_arg8))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
      ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
      ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8))
      ∧ r.2.sem = fun _ => 0)

def quiescent_PeerReferenceIdeal [hPeerReferenceIdeal : Cert.PeerReferenceIdeal.Facts] : Prop :=
  ∀ (m : (ℓ : Loc Cert.PeerReferenceIdeal.nD Cert.PeerReferenceIdeal.τ Cert.PeerReferenceIdeal.sig) → Buf (Elt Ideal) ℓ) (g : Dev Cert.PeerReferenceIdeal.nD → PrngReg), Pre_PeerReferenceIdeal m →
    θ_run (Cert.PeerReferenceIdeal.defs (F := Ideal)) (onTc (τ := Cert.PeerReferenceIdeal.τ) (Cert.PeerReferenceIdeal.main (F := Ideal))) ⟨m, fun _ => 0, g⟩ (fun r => (∀ c : Dev Cert.PeerReferenceIdeal.nD,
      r.2.mem ((c.tc : Thread Cert.PeerReferenceIdeal.nD Cert.PeerReferenceIdeal.τ).loc Cert.PeerReferenceIdeal.main_arg0) = m ((c.tc : Thread Cert.PeerReferenceIdeal.nD Cert.PeerReferenceIdeal.τ).loc Cert.PeerReferenceIdeal.main_arg0)
      ∧ r.2.mem ((c.tc : Thread Cert.PeerReferenceIdeal.nD Cert.PeerReferenceIdeal.τ).loc Cert.PeerReferenceIdeal.main_arg1) = m ((c.tc : Thread Cert.PeerReferenceIdeal.nD Cert.PeerReferenceIdeal.τ).loc Cert.PeerReferenceIdeal.main_arg1)
      ∧ r.2.mem ((c.tc : Thread Cert.PeerReferenceIdeal.nD Cert.PeerReferenceIdeal.τ).loc Cert.PeerReferenceIdeal.main_arg2) = m ((c.tc : Thread Cert.PeerReferenceIdeal.nD Cert.PeerReferenceIdeal.τ).loc Cert.PeerReferenceIdeal.main_arg2)
      ∧ r.2.mem ((c.tc : Thread Cert.PeerReferenceIdeal.nD Cert.PeerReferenceIdeal.τ).loc Cert.PeerReferenceIdeal.main_arg3) = m ((c.tc : Thread Cert.PeerReferenceIdeal.nD Cert.PeerReferenceIdeal.τ).loc Cert.PeerReferenceIdeal.main_arg3)
      ∧ r.2.mem ((c.tc : Thread Cert.PeerReferenceIdeal.nD Cert.PeerReferenceIdeal.τ).loc Cert.PeerReferenceIdeal.main_arg4) = m ((c.tc : Thread Cert.PeerReferenceIdeal.nD Cert.PeerReferenceIdeal.τ).loc Cert.PeerReferenceIdeal.main_arg4)
      ∧ r.2.mem ((c.tc : Thread Cert.PeerReferenceIdeal.nD Cert.PeerReferenceIdeal.τ).loc Cert.PeerReferenceIdeal.main_arg5) = m ((c.tc : Thread Cert.PeerReferenceIdeal.nD Cert.PeerReferenceIdeal.τ).loc Cert.PeerReferenceIdeal.main_arg5)
      ∧ r.2.mem ((c.tc : Thread Cert.PeerReferenceIdeal.nD Cert.PeerReferenceIdeal.τ).loc Cert.PeerReferenceIdeal.main_arg6) = m ((c.tc : Thread Cert.PeerReferenceIdeal.nD Cert.PeerReferenceIdeal.τ).loc Cert.PeerReferenceIdeal.main_arg6)
      ∧ r.2.mem ((c.tc : Thread Cert.PeerReferenceIdeal.nD Cert.PeerReferenceIdeal.τ).loc Cert.PeerReferenceIdeal.main_arg7) = m ((c.tc : Thread Cert.PeerReferenceIdeal.nD Cert.PeerReferenceIdeal.τ).loc Cert.PeerReferenceIdeal.main_arg7)
      ∧ r.2.mem ((c.tc : Thread Cert.PeerReferenceIdeal.nD Cert.PeerReferenceIdeal.τ).loc Cert.PeerReferenceIdeal.main_arg8) = m ((c.tc : Thread Cert.PeerReferenceIdeal.nD Cert.PeerReferenceIdeal.τ).loc Cert.PeerReferenceIdeal.main_arg8))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v20) = v0 c
          ∧ r.2.mem ((c.tc : Thread Cert.InProjReferenceIdeal.nD Cert.InProjReferenceIdeal.τ).loc Cert.InProjReferenceIdeal.main_v21) = v1 c
          ∧ r.2.mem ((c.tc : Thread Cert.InProjReferenceIdeal.nD Cert.InProjReferenceIdeal.τ).loc Cert.InProjReferenceIdeal.main_v22) = v2 c
          ∧ r.2.mem ((c.tc : Thread Cert.InProjReferenceIdeal.nD Cert.InProjReferenceIdeal.τ).loc Cert.InProjReferenceIdeal.main_v19) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v14) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v83) = v0 c
          ∧ r.2.mem ((c.tc : Thread Cert.MixReferenceIdeal.nD Cert.MixReferenceIdeal.τ).loc Cert.MixReferenceIdeal.main_v97) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12))

def preserves_Peer_PeerIdeal : Prop :=
  True

def algebraic_PeerIdeal_PeerReferenceIdeal [hPeerIdeal : Cert.PeerIdeal.Facts] [hPeerReferenceIdeal : Cert.PeerReferenceIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerReferenceIdeal.nD Cert.PeerReferenceIdeal.τ Cert.PeerReferenceIdeal.sig) → Buf (Elt Ideal) ℓ) (g' : Dev Cert.PeerReferenceIdeal.nD → PrngReg), Pre_PeerIdeal m →
    (∀ c : Dev Cert.PeerIdeal.nD,
      m' ((c.tc : Thread Cert.PeerReferenceIdeal.nD Cert.PeerReferenceIdeal.τ).loc Cert.PeerReferenceIdeal.main_arg0) = m ((c.tc : Thread Cert.PeerIdeal.nD Cert.PeerIdeal.τ).loc Cert.PeerIdeal.main_arg0)
      ∧ m' ((c.tc : Thread Cert.PeerReferenceIdeal.nD Cert.PeerReferenceIdeal.τ).loc Cert.PeerReferenceIdeal.main_arg1) = m ((c.tc : Thread Cert.PeerIdeal.nD Cert.PeerIdeal.τ).loc Cert.PeerIdeal.main_arg1)
      ∧ m' ((c.tc : Thread Cert.PeerReferenceIdeal.nD Cert.PeerReferenceIdeal.τ).loc Cert.PeerReferenceIdeal.main_arg2) = m ((c.tc : Thread Cert.PeerIdeal.nD Cert.PeerIdeal.τ).loc Cert.PeerIdeal.main_arg2)
      ∧ m' ((c.tc : Thread Cert.PeerReferenceIdeal.nD Cert.PeerReferenceIdeal.τ).loc Cert.PeerReferenceIdeal.main_arg3) = m ((c.tc : Thread Cert.PeerIdeal.nD Cert.PeerIdeal.τ).loc Cert.PeerIdeal.main_arg3)
      ∧ m' ((c.tc : Thread Cert.PeerReferenceIdeal.nD Cert.PeerReferenceIdeal.τ).loc Cert.PeerReferenceIdeal.main_arg4) = m ((c.tc : Thread Cert.PeerIdeal.nD Cert.PeerIdeal.τ).loc Cert.PeerIdeal.main_arg4)
      ∧ m' ((c.tc : Thread Cert.PeerReferenceIdeal.nD Cert.PeerReferenceIdeal.τ).loc Cert.PeerReferenceIdeal.main_arg5) = m ((c.tc : Thread Cert.PeerIdeal.nD Cert.PeerIdeal.τ).loc Cert.PeerIdeal.main_arg5)
      ∧ m' ((c.tc : Thread Cert.PeerReferenceIdeal.nD Cert.PeerReferenceIdeal.τ).loc Cert.PeerReferenceIdeal.main_arg6) = m ((c.tc : Thread Cert.PeerIdeal.nD Cert.PeerIdeal.τ).loc Cert.PeerIdeal.main_arg6)
      ∧ m' ((c.tc : Thread Cert.PeerReferenceIdeal.nD Cert.PeerReferenceIdeal.τ).loc Cert.PeerReferenceIdeal.main_arg7) = m ((c.tc : Thread Cert.PeerIdeal.nD Cert.PeerIdeal.τ).loc Cert.PeerIdeal.main_arg7)
      ∧ m' ((c.tc : Thread Cert.PeerReferenceIdeal.nD Cert.PeerReferenceIdeal.τ).loc Cert.PeerReferenceIdeal.main_arg8) = m ((c.tc : Thread Cert.PeerIdeal.nD Cert.PeerIdeal.τ).loc Cert.PeerIdeal.main_arg8)) →
    ∃ (v0 : (c : Dev Cert.PeerIdeal.nD) → Buf (Elt Ideal) ((c.tc : Thread Cert.PeerIdeal.nD Cert.PeerIdeal.τ).loc Cert.PeerIdeal.main_v0)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v0) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
          ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
          ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8))
      ∧ θ_run (Cert.PeerReferenceIdeal.defs (F := Ideal)) (onTc (τ := Cert.PeerReferenceIdeal.τ) (Cert.PeerReferenceIdeal.main (F := Ideal))) ⟨m', fun _ => 0, g'⟩ (fun r => ∀ c : Dev Cert.PeerReferenceIdeal.nD,
          r.2.mem ((c.tc : Thread Cert.PeerReferenceIdeal.nD Cert.PeerReferenceIdeal.τ).loc Cert.PeerReferenceIdeal.main_v48) = v0 c
          ∧ r.2.mem ((c.tc : Thread Cert.PeerReferenceIdeal.nD Cert.PeerReferenceIdeal.τ).loc Cert.PeerReferenceIdeal.main_arg0) = m' ((c.tc : Thread Cert.PeerReferenceIdeal.nD Cert.PeerReferenceIdeal.τ).loc Cert.PeerReferenceIdeal.main_arg0)
          ∧ r.2.mem ((c.tc : Thread Cert.PeerReferenceIdeal.nD Cert.PeerReferenceIdeal.τ).loc Cert.PeerReferenceIdeal.main_arg1) = m' ((c.tc : Thread Cert.PeerReferenceIdeal.nD Cert.PeerReferenceIdeal.τ).loc Cert.PeerReferenceIdeal.main_arg1)
          ∧ r.2.mem ((c.tc : Thread Cert.PeerReferenceIdeal.nD Cert.PeerReferenceIdeal.τ).loc Cert.PeerReferenceIdeal.main_arg2) = m' ((c.tc : Thread Cert.PeerReferenceIdeal.nD Cert.PeerReferenceIdeal.τ).loc Cert.PeerReferenceIdeal.main_arg2)
          ∧ r.2.mem ((c.tc : Thread Cert.PeerReferenceIdeal.nD Cert.PeerReferenceIdeal.τ).loc Cert.PeerReferenceIdeal.main_arg3) = m' ((c.tc : Thread Cert.PeerReferenceIdeal.nD Cert.PeerReferenceIdeal.τ).loc Cert.PeerReferenceIdeal.main_arg3)
          ∧ r.2.mem ((c.tc : Thread Cert.PeerReferenceIdeal.nD Cert.PeerReferenceIdeal.τ).loc Cert.PeerReferenceIdeal.main_arg4) = m' ((c.tc : Thread Cert.PeerReferenceIdeal.nD Cert.PeerReferenceIdeal.τ).loc Cert.PeerReferenceIdeal.main_arg4)
          ∧ r.2.mem ((c.tc : Thread Cert.PeerReferenceIdeal.nD Cert.PeerReferenceIdeal.τ).loc Cert.PeerReferenceIdeal.main_arg5) = m' ((c.tc : Thread Cert.PeerReferenceIdeal.nD Cert.PeerReferenceIdeal.τ).loc Cert.PeerReferenceIdeal.main_arg5)
          ∧ r.2.mem ((c.tc : Thread Cert.PeerReferenceIdeal.nD Cert.PeerReferenceIdeal.τ).loc Cert.PeerReferenceIdeal.main_arg6) = m' ((c.tc : Thread Cert.PeerReferenceIdeal.nD Cert.PeerReferenceIdeal.τ).loc Cert.PeerReferenceIdeal.main_arg6)
          ∧ r.2.mem ((c.tc : Thread Cert.PeerReferenceIdeal.nD Cert.PeerReferenceIdeal.τ).loc Cert.PeerReferenceIdeal.main_arg7) = m' ((c.tc : Thread Cert.PeerReferenceIdeal.nD Cert.PeerReferenceIdeal.τ).loc Cert.PeerReferenceIdeal.main_arg7)
          ∧ r.2.mem ((c.tc : Thread Cert.PeerReferenceIdeal.nD Cert.PeerReferenceIdeal.τ).loc Cert.PeerReferenceIdeal.main_arg8) = m' ((c.tc : Thread Cert.PeerReferenceIdeal.nD Cert.PeerReferenceIdeal.τ).loc Cert.PeerReferenceIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMemKv : Cert.MemKv.Facts) (hMemKvIdeal : Cert.MemKvIdeal.Facts) (hMemKvReferenceIdeal : Cert.MemKvReferenceIdeal.Facts) (hMix : Cert.Mix.Facts) (hMixIdeal : Cert.MixIdeal.Facts) (hMixReferenceIdeal : Cert.MixReferenceIdeal.Facts) (hPeer : Cert.Peer.Facts) (hPeerIdeal : Cert.PeerIdeal.Facts) (hPeerReferenceIdeal : Cert.PeerReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Mix (hMix := hMix)
    ∧ quiescent_MixIdeal (hMixIdeal := hMixIdeal)
    ∧ quiescent_MixReferenceIdeal (hMixReferenceIdeal := hMixReferenceIdeal)
    ∧ quiescent_Peer (hPeer := hPeer)
    ∧ quiescent_PeerIdeal (hPeerIdeal := hPeerIdeal)
    ∧ quiescent_PeerReferenceIdeal (hPeerReferenceIdeal := hPeerReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Mix_MixIdeal
    ∧ algebraic_MixIdeal_MixReferenceIdeal (hMixIdeal := hMixIdeal) (hMixReferenceIdeal := hMixReferenceIdeal)
    ∧ preserves_Peer_PeerIdeal
    ∧ algebraic_PeerIdeal_PeerReferenceIdeal (hPeerIdeal := hPeerIdeal) (hPeerReferenceIdeal := hPeerReferenceIdeal)
-- ==== Pre_finite_scores.lean ====
abbrev S2x8192x512 : Shape := ⟨3, ![2, 8192, 512]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)

variable [Facts]

def fn {F : FTy → Type} [FloatOps F] (main_arg0 : FVec F S2x8192x512 .bf16) (main_arg1 : FVec F S2x8192x512 .bf16) (main_arg2 : FVec F S2x8192x512 .bf16) : IVec S2x8192x512 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x8192x512 .f32 := (extf .f32 · bitsLt_bf16_f32) main_arg1
  let main_v5 : FVec F S2x8192x512 .f32 := Host.absf main_v4
  let main_cst_0 : FVec F S_ .f32 := constant S_ .f32 0x7F800000#32
  let main_v6 : FVec F S2x8192x512 .f32 := broadcastInDim S2x8192x512 ![] bcast_S_S2x8192x512 main_cst_0
  let main_v7 : IVec S2x8192x512 1 := cmpf .olt main_v5 main_v6
  let main_v8 : IVec S2x8192x512 1 := andi main_v3 main_v7
  main_v8
-- ==== Kernel.lean ====
abbrev S2x8192x512 : Shape := ⟨3, ![2, 8192, 512]⟩
abbrev S1x256x256 : Shape := ⟨3, ![1, 256, 256]⟩
abbrev S1x8192x256 : Shape := ⟨3, ![1, 8192, 256]⟩
abbrev S256x256 : Shape := ⟨2, ![256, 256]⟩
abbrev S4x256x128 : Shape := ⟨3, ![4, 256, 128]⟩
abbrev S4x256x256 : Shape := ⟨3, ![4, 256, 256]⟩
abbrev S256x1024 : Shape := ⟨2, ![256, 1024]⟩
abbrev S1x256x128 : Shape := ⟨3, ![1, 256, 128]⟩
abbrev S256x128 : Shape := ⟨2, ![256, 128]⟩
abbrev S256x1 : Shape := ⟨2, ![256, 1]⟩
abbrev S1024x256 : Shape := ⟨2, ![1024, 256]⟩

abbrev nBuf : Space → Nat
  | .hbm => 4
  | .vmem => 12
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x8192x512, .f32⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x256x256, .f32⟩
  | .local _ .vmem, ⟨7, _⟩ => ⟨S1x256x256, .f32⟩
  | .local _ .vmem, ⟨8, _⟩ => ⟨S256x256, .f32⟩
  | .local _ .vmem, ⟨9, _⟩ => ⟨S4x256x128, .f32⟩
  | .local _ .vmem, ⟨10, _⟩ => ⟨S4x256x256, .f32⟩
  | .local _ .vmem, ⟨11, _⟩ => ⟨S256x1024, .bf16⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32_14 : BitVec 32 := 256#32
  let v44 : BitVec 32 := Scalar.muli arg2 c256_i32_14
  v44
def k0_off1 (i : grid0.Coords) : Fin 3 → Nat :=
  let c0_15 : Index := 0#32
  let arg2 : BitVec 32 := BitVec.ofNat 32 (i 2).val
  let c256_i32_14 : BitVec 32 := 256#32
  let v44 : BitVec 32 := Scalar.muli arg2 c256_i32_14
  let v45 : BitVec 32 := v44
  let v46 : Index := Scalar.indexCast v45
  let c0_16 : Index := 0#32
  ![0, v46.toNat, 0]
def k0_mult2 (i : grid0.Coords) : BitVec 32 :=
  let arg2 : BitVec 32 := BitVec.ofNat 32 (i 2).val
  let c1_i32 : BitVec 32 := 1#32
  let v225 : BitVec 32 := Scalar.subi arg2 c1_i32
  let c0_i32_99 : BitVec 32 := 0#32
  let v226 : BitVec 32 := Scalar.maxsi v225 c0_i32_99
  let c256_i32_100 : BitVec 32 := 256#32
  let v227 : BitVec 32 := Scalar.muli v226 c256_i32_100
  v227
def k0_off2 (i : grid0.Coords) : Fin 3 → Nat :=
  let c0_101 : Index := 0#32
  let arg2 : BitVec 32 := BitVec.ofNat 32 (i 2).val
  let c1_i32 : BitVec 32 := 1#32
  let v225 : BitVec 32 := Scalar.subi arg2 c1_i32
  let c0_i32_99 : BitVec 32 := 0#32
  let v226 : BitVec 32 := Scalar.maxsi v225 c0_i32_99
  let c256_i32_100 : BitVec 32 := 256#32
  let v227 : BitVec 32 := Scalar.muli v226 c256_i32_100
  let v228 : BitVec 32 := v227
  let v229 : Index := Scalar.indexCast v228
  let c0_102 : Index := 0#32
  ![0, v229.toNat, 0]
@[reducible] def k0_t1_loop (i : grid0.Coords) : Scf.Loop 32 :=
  let c0_i32_119 : BitVec 32 := 0#32
  let arg2 : BitVec 32 := BitVec.ofNat 32 (i 2).val
  let v248 : BitVec 32 := Scalar.subi arg2 c0_i32_119
  let c1_i32_121 : BitVec 32 := 1#32
  let v250 : BitVec 32 := Scalar.divsi v248 c1_i32_121
  let v251 : BitVec 32 := Scalar.muli v250 c1_i32_121
  let v252 : BitVec 32 := Scalar.addi c0_i32_119 v251
  let c1_i32_122 : BitVec 32 := 1#32
  ⟨c0_i32_119, v252, c1_i32_122⟩
def k0_mult3 (i : grid0.Coords) (k0_t1 : Fin (k0_t1_loop i).trips) : BitVec 32 :=
  let arg2 : BitVec 32 := BitVec.ofNat 32 (i 2).val
  let c1_i32_143 : BitVec 32 := 1#32
  let v279 : BitVec 32 := Scalar.subi arg2 c1_i32_143
  let c0_i32_119 : BitVec 32 := 0#32
  let c1_i32_122 : BitVec 32 := 1#32
  let arg11 : BitVec 32 := Scf.iv c0_i32_119 c1_i32_122 k0_t1
  let v280 : BitVec 32 := Scalar.subi v279 arg11
  let c1_i32_144 : BitVec 32 := 1#32
  let v281 : BitVec 32 := Scalar.addi v280 c1_i32_144
  let c256_i32_145 : BitVec 32 := 256#32
  let v282 : BitVec 32 := Scalar.muli v281 c256_i32_145
  v282
def k0_off3 (i : grid0.Coords) (k0_t1 : Fin (k0_t1_loop i).trips) : Fin 3 → Nat :=
  let c0_146 : Index := 0#32
  let arg2 : BitVec 32 := BitVec.ofNat 32 (i 2).val
  let c1_i32_143 : BitVec 32 := 1#32
  let v279 : BitVec 32 := Scalar.subi arg2 c1_i32_143
  let c0_i32_119 : BitVec 32 := 0#32
  let c1_i32_122 : BitVec 32 := 1#32
  let arg11 : BitVec 32 := Scf.iv c0_i32_119 c1_i32_122 k0_t1
  let v280 : BitVec 32 := Scalar.subi v279 arg11
  let c1_i32_144 : BitVec 32 := 1#32
  let v281 : BitVec 32 := Scalar.addi v280 c1_i32_144
  let c256_i32_145 : BitVec 32 := 256#32
  let v282 : BitVec 32 := Scalar.muli v281 c256_i32_145
  let v283 : BitVec 32 := v282
  let v284 : Index := Scalar.indexCast v283
  let c0_147 : Index := 0#32
  ![0, v284.toNat, 0]
def k0_mult4 (i : grid0.Coords) (k0_t1 : Fin (k0_t1_loop i).trips) : BitVec 32 :=
  let arg2 : BitVec 32 := BitVec.ofNat 32 (i 2).val
  let c1_i32_143 : BitVec 32 := 1#32
  let v279 : BitVec 32 := Scalar.subi arg2 c1_i32_143
  let c0_i32_119 : BitVec 32 := 0#32
  let c1_i32_122 : BitVec 32 := 1#32
  let arg11 : BitVec 32 := Scf.iv c0_i32_119 c1_i32_122 k0_t1
  let v280 : BitVec 32 := Scalar.subi v279 arg11
  let c1_i32_223 : BitVec 32 := 1#32
  let v447 : BitVec 32 := Scalar.subi v280 c1_i32_223
  let c0_i32_224 : BitVec 32 := 0#32
  let v448 : BitVec 32 := Scalar.maxsi v447 c0_i32_224
  let c256_i32_225 : BitVec 32 := 256#32
  let v449 : BitVec 32 := Scalar.muli v448 c256_i32_225
  v449
def k0_off4 (i : grid0.Coords) (k0_t1 : Fin (k0_t1_loop i).trips) : Fin 3 → Nat :=
  let c0_226 : Index := 0#32
  let arg2 : BitVec 32 := BitVec.ofNat 32 (i 2).val
  let c1_i32_143 : BitVec 32 := 1#32
  let v279 : BitVec 32 := Scalar.subi arg2 c1_i32_143
  let c0_i32_119 : BitVec 32 := 0#32
  let c1_i32_122 : BitVec 32 := 1#32
  let arg11 : BitVec 32 := Scf.iv c0_i32_119 c1_i32_122 k0_t1
  let v280 : BitVec 32 := Scalar.subi v279 arg11
  let c1_i32_223 : BitVec 32 := 1#32
  let v447 : BitVec 32 := Scalar.subi v280 c1_i32_223
  let c0_i32_224 : BitVec 32 := 0#32
  let v448 : BitVec 32 := Scalar.maxsi v447 c0_i32_224
  let c256_i32_225 : BitVec 32 := 256#32
  let v449 : BitVec 32 := Scalar.muli v448 c256_i32_225
  let v450 : BitVec 32 := v449
  let v451 : Index := Scalar.indexCast v450
  let c0_227 : Index := 0#32
  ![0, v451.toNat, 0]
@[reducible] def k0_t2_loop (i : grid0.Coords) : Scf.Loop 32 :=
  let c0_i32_119 : BitVec 32 := 0#32
  let arg2 : BitVec 32 := BitVec.ofNat 32 (i 2).val
  let v248 : BitVec 32 := Scalar.subi arg2 c0_i32_119
  let c1_i32_121 : BitVec 32 := 1#32
  let v250 : BitVec 32 := Scalar.divsi v248 c1_i32_121
  let v251 : BitVec 32 := Scalar.muli v250 c1_i32_121
  let v252 : BitVec 32 := Scalar.addi c0_i32_119 v251
  let v249 : BitVec 32 := Scalar.addi c0_i32_119 v248
  let c1_i32_123 : BitVec 32 := 1#32
  ⟨v252, v249, c1_i32_123⟩
def k0_mult5 (i : grid0.Coords) (k0_t2 : Fin (k0_t2_loop i).trips) : BitVec 32 :=
  let arg2 : BitVec 32 := BitVec.ofNat 32 (i 2).val
  let c1_i32_143 : BitVec 32 := 1#32
  let v279 : BitVec 32 := Scalar.subi arg2 c1_i32_143
  let c0_i32_119 : BitVec 32 := 0#32
  let v248 : BitVec 32 := Scalar.subi arg2 c0_i32_119
  let c1_i32_121 : BitVec 32 := 1#32
  let v250 : BitVec 32 := Scalar.divsi v248 c1_i32_121
  let v251 : BitVec 32 := Scalar.muli v250 c1_i32_121
  let v252 : BitVec 32 := Scalar.addi c0_i32_119 v251
  let c1_i32_123 : BitVec 32 := 1#32
  let arg11 : BitVec 32 := Scf.iv v252 c1_i32_123 k0_t2
  let v280 : BitVec 32 := Scalar.subi v279 arg11
  let c1_i32_144 : BitVec 32 := 1#32
  let v281 : BitVec 32 := Scalar.addi v280 c1_i32_144
  let c256_i32_145 : BitVec 32 := 256#32
  let v282 : BitVec 32 := Scalar.muli v281 c256_i32_145
  v282
def k0_off5 (i : grid0.Coords) (k0_t2 : Fin (k0_t2_loop i).trips) : Fin 3 → Nat :=
  let c0_146 : Index := 0#32
  let arg2 : BitVec 32 := BitVec.ofNat 32 (i 2).val
  let c1_i32_143 : BitVec 32 := 1#32
  let v279 : BitVec 32 := Scalar.subi arg2 c1_i32_143
  let c0_i32_119 : BitVec 32 := 0#32
  let v248 : BitVec 32 := Scalar.subi arg2 c0_i32_119
  let c1_i32_121 : BitVec 32 := 1#32
  let v250 : BitVec 32 := Scalar.divsi v248 c1_i32_121
  let v251 : BitVec 32 := Scalar.muli v250 c1_i32_121
  let v252 : BitVec 32 := Scalar.addi c0_i32_119 v251
  let c1_i32_123 : BitVec 32 := 1#32
  let arg11 : BitVec 32 := Scf.iv v252 c1_i32_123 k0_t2
  let v280 : BitVec 32 := Scalar.subi v279 arg11
  let c1_i32_144 : BitVec 32 := 1#32
  let v281 : BitVec 32 := Scalar.addi v280 c1_i32_144
  let c256_i32_145 : BitVec 32 := 256#32
  let v282 : BitVec 32 := Scalar.muli v281 c256_i32_145
  let v283 : BitVec 32 := v282
  let v284 : Index := Scalar.indexCast v283
  let c0_147 : Index := 0#32
  ![0, v284.toNat, 0]
def k0_mult6 (i : grid0.Coords) (k0_t2 : Fin (k0_t2_loop i).trips) : BitVec 32 :=
  let arg2 : BitVec 32 := BitVec.ofNat 32 (i 2).val
  let c1_i32_143 : BitVec 32 := 1#32
  let v279 : BitVec 32 := Scalar.subi arg2 c1_i32_143
  let c0_i32_119 : BitVec 32 := 0#32
  let v248 : BitVec 32 := Scalar.subi arg2 c0_i32_119
  let c1_i32_121 : BitVec 32 := 1#32
  let v250 : BitVec 32 := Scalar.divsi v248 c1_i32_121
  let v251 : BitVec 32 := Scalar.muli v250 c1_i32_121
  let v252 : BitVec 32 := Scalar.addi c0_i32_119 v251
  let c1_i32_123 : BitVec 32 := 1#32
  let arg11 : BitVec 32 := Scf.iv v252 c1_i32_123 k0_t2
  let v280 : BitVec 32 := Scalar.subi v279 arg11
  let c1_i32_223 : BitVec 32 := 1#32
  let v447 : BitVec 32 := Scalar.subi v280 c1_i32_223
  let c0_i32_224 : BitVec 32 := 0#32
  let v448 : BitVec 32 := Scalar.maxsi v447 c0_i32_224
  let c256_i32_225 : BitVec 32 := 256#32
  let v449 : BitVec 32 := Scalar.muli v448 c256_i32_225
  v449
def k0_off6 (i : grid0.Coords) (k0_t2 : Fin (k0_t2_loop i).trips) : Fin 3 → Nat :=
  let c0_226 : Index := 0#32
  let arg2 : BitVec 32 := BitVec.ofNat 32 (i 2).val
  let c1_i32_143 : BitVec 32 := 1#32
  let v279 : BitVec 32 := Scalar.subi arg2 c1_i32_143
  let c0_i32_119 : BitVec 32 := 0#32
  let v248 : BitVec 32 := Scalar.subi arg2 c0_i32_119
  let c1_i32_121 : BitVec 32 := 1#32
  let v250 : BitVec 32 := Scalar.divsi v248 c1_i32_121
  let v251 : BitVec 32 := Scalar.muli v250 c1_i32_121
  let v252 : BitVec 32 := Scalar.addi c0_i32_119 v251
  let c1_i32_123 : BitVec 32 := 1#32
  let arg11 : BitVec 32 := Scf.iv v252 c1_i32_123 k0_t2
  let v280 : BitVec 32 := Scalar.subi v279 arg11
  let c1_i32_223 : BitVec 32 := 1#32
  let v447 : BitVec 32 := Scalar.subi v280 c1_i32_223
  let c0_i32_224 : BitVec 32 := 0#32
  let v448 : BitVec 32 := Scalar.maxsi v447 c0_i32_224
  let c256_i32_225 : BitVec 32 := 256#32
  let v449 : BitVec 32 := Scalar.muli v448 c256_i32_225
  let v450 : BitVec 32 := v449
  let v451 : Index := Scalar.indexCast v450
  let c0_227 : Index := 0#32
  ![0, v451.toNat, 0]
def k0_mult7 : BitVec 32 :=
  let c0_i32_124 : BitVec 32 := 0#32
  c0_i32_124
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x8192x512, .f32⟩
  | .hbm, ⟨4, _⟩ => ⟨S2x8192x8x64, .f32⟩
  | .hbm, ⟨5, _⟩ => ⟨S2x8x8192x64, .f32⟩
  | .hbm, ⟨6, _⟩ => ⟨S2x8192x512, .f32⟩
  | .hbm, ⟨7, _⟩ => ⟨S2x8192x8x64, .f32⟩
  | .hbm, ⟨8, _⟩ => ⟨S2x8x8192x64, .f32⟩
  | .hbm, ⟨9, _⟩ => ⟨S2x8192x512, .f32⟩
  | .hbm, ⟨10, _⟩ => ⟨S2x8192x8x64, .f32⟩
  | .hbm, ⟨11, _⟩ => ⟨S2x8x8192x64, .f32⟩
  | .hbm, ⟨12, _⟩ => ⟨S2x8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .i1⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S_, .f32⟩
  | .hbm, ⟨37, _⟩ => ⟨S_, .f32⟩
  | .hbm, ⟨38, _⟩ => ⟨S2x8x8192x8192, .i1⟩
  | .hbm, ⟨39, _⟩ => ⟨S2x8x8192x8192, .f32⟩
  | .hbm, ⟨40, _⟩ => ⟨S2x8x8192x8192, .f32⟩
  | .hbm, ⟨41, _⟩ => ⟨S_, .f32⟩
  | .hbm, ⟨42, _⟩ => ⟨S_, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S_, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .i1⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S_, .f32⟩
  | .hbm, ⟨64, _⟩ => ⟨S_, .f32⟩
  | .hbm, ⟨65, _⟩ => ⟨S2x8x8192x8192, .i1⟩
  | .hbm, ⟨66, _⟩ => ⟨S2x8x8192x8192, .f32⟩
  | .hbm, ⟨67, _⟩ => ⟨S2x8x8192x8192, .f32⟩
  | .hbm, ⟨68, _⟩ => ⟨S2x8x8192x64, .f32⟩
  | .hbm, ⟨69, _⟩ => ⟨S2x8192x8x64, .f32⟩
  | .hbm, ⟨70, _⟩ => ⟨S2x8192x512, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩

abbrev nD : Nat := 1
abbrev τ : Topo := Topo.v7x

variable {F : FTy → Type} [FloatOps F]
-- ==== InProj.lean ====
abbrev S16384x1024 : Shape := ⟨2, ![16384, 1024]⟩
abbrev S1x1024 : Shape := ⟨2, ![1, 1024]⟩
abbrev S1024x2048 : Shape := ⟨2, ![1024, 2048]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjReferenceIdeal.lean ====
abbrev S16384x1024 : Shape := ⟨2, ![16384, 1024]⟩
abbrev S1x1024 : Shape := ⟨2, ![1, 1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S16384x512 : Shape := ⟨2, ![16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x2048, .f32⟩
  | .hbm, ⟨19, _⟩ => ⟨S16384x2048, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .bf16⟩
  | .hbm, ⟨28, _⟩ => ⟨S16384x512, .bf16⟩
  | .hbm, ⟨29, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MemKv.lean ====
abbrev S512x1024 : Shape := ⟨2, ![512, 1024]⟩
abbrev S1x1024 : Shape := ⟨2, ![1, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .bf16⟩
  | .hbm, ⟨3, _⟩ => ⟨S512x2048, .bf16⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S512x2048, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemKvReferenceIdeal.lean ====
abbrev S512x1024 : Shape := ⟨2, ![512, 1024]⟩
abbrev S1x1024 : Shape := ⟨2, ![1, 1024]⟩
abbrev S1024x2048 : Shape := ⟨2, ![1024, 2048]⟩
abbrev S_ : Shape := ⟨0, ![]⟩
abbrev S512 : Shape := ⟨1, ![512]⟩
abbrev S512x1 : Shape := ⟨2, ![512, 1]⟩
abbrev S512x2048 : Shape := ⟨2, ![512, 2048]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x2048, .f32⟩
  | .hbm, ⟨19, _⟩ => ⟨S512x2048, .f32⟩
  | .hbm, ⟨20, _⟩ => ⟨S512x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mix.lean ====
abbrev S2x8192x1024 : Shape := ⟨3, ![2, 8192, 1024]⟩
abbrev S2x8192x512 : Shape := ⟨3, ![2, 8192, 512]⟩
abbrev S2x256x2048 : Shape := ⟨3, ![2, 256, 2048]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S1x512x1024 : Shape := ⟨3, ![1, 512, 1024]⟩
abbrev S1x512x512 : Shape := ⟨3, ![1, 512, 512]⟩
abbrev S1x256x2048 : Shape := ⟨3, ![1, 256, 2048]⟩
abbrev S512 : Shape := ⟨1, ![512]⟩
abbrev S512x1 : Shape := ⟨2, ![512, 1]⟩
abbrev S512x1024 : Shape := ⟨2, ![512, 1024]⟩
abbrev S1x256x256 : Shape := ⟨3, ![1, 256, 256]⟩
abbrev S256x256 : Shape := ⟨2, ![256, 256]⟩
abbrev S512x256 : Shape := ⟨2, ![512, 256]⟩

abbrev nBuf : Space → Nat
  | .hbm => 15
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x256x2048, .bf16⟩
  | .hbm, ⟨4, _⟩ => ⟨S1x512, .f32⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S2x8192x1024, .f32⟩
  | .hbm, ⟨14, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x256x2048, .bf16⟩
  | .local _ .vmem, ⟨14, _⟩ => ⟨S1x256x2048, .bf16⟩
  | .local _ .vmem, ⟨15, _⟩ => ⟨S1024x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixReferenceIdeal.lean ====
abbrev S2x8192x1024 : Shape := ⟨3, ![2, 8192, 1024]⟩
abbrev S2x8192x512 : Shape := ⟨3, ![2, 8192, 512]⟩
abbrev S2x256x2048 : Shape := ⟨3, ![2, 256, 2048]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S1x1x512 : Shape := ⟨3, ![1, 1, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 129
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x512, .f32⟩
  | 3 => ⟨S2x256x2048, .bf16⟩
  | 4 => ⟨S1x512, .f32⟩
  | 5 => ⟨S1x512, .f32⟩
  | 6 => ⟨S512x512, .bf16⟩
  | 7 => ⟨S1x512, .f32⟩
  | 8 => ⟨S1024x1024, .bf16⟩
  | 9 => ⟨S1x1024, .f32⟩
  | 10 => ⟨S1024x1024, .bf16⟩
  | 11 => ⟨S1024x1024, .bf16⟩
  | 12 => ⟨S1x1024, .f32⟩
  | 13 => ⟨S512x512, .f32⟩
  | 14 => ⟨S2x8192x512, .f32⟩
  | 15 => ⟨S1x1x512, .f32⟩
  | 16 => ⟨S2x8192x512, .f32⟩
  | 17 => ⟨S2x8192x512, .f32⟩
  | 18 => ⟨S2x8192x512, .f32⟩
  | 19 => ⟨S2x8192x512, .f32⟩
  | 20 => ⟨S_, .f32⟩
  | 21 => ⟨S2x8192x512, .f32⟩
  | 22 => ⟨S2x8192x512, .f32⟩
  | 23 => ⟨S_, .f32⟩
  | 24 => ⟨S2x8192x512, .f32⟩
  | 25 => ⟨S2x8192x512, .f32⟩
  | 26 => ⟨S2x8192x512, .f32⟩
  | 27 => ⟨S2x8192x512, .f32⟩
  | 28 => ⟨S_, .f32⟩
  | 29 => ⟨S2x8192, .f32⟩
  | 30 => ⟨S2x8192x1, .f32⟩
  | 31 => ⟨S_, .f32⟩
  | 32 => ⟨S2x8192x1, .f32⟩
  | 33 => ⟨S2x8192x1, .f32⟩
  | 34 => ⟨S_, .f32⟩
  | 35 => ⟨S2x8192x1, .f32⟩
  | 36 => ⟨S2x8192x1, .f32⟩
  | 37 => ⟨S2x8192x1, .f32⟩
  | 38 => ⟨S2x8192x512, .f32⟩
  | 39 => ⟨S2x8192x512, .f32⟩
  | 40 => ⟨S1x1x512, .f32⟩
  | 41 => ⟨S2x8192x512, .f32⟩
  | 42 => ⟨S2x8192x512, .f32⟩
  | 43 => ⟨S2x8192x512, .f32⟩
  | 44 => ⟨S_, .f32⟩
  | 45 => ⟨S2x8192, .f32⟩
  | 46 => ⟨S2x8192x1, .f32⟩
  | 47 => ⟨S_, .f32⟩
  | 48 => ⟨S2x8192x1, .f32⟩
  | 49 => ⟨S2x8192x1, .f32⟩
  | 50 => ⟨S_, .f32⟩
  | 51 => ⟨S2x8192x1, .f32⟩
  | 52 => ⟨S2x8192x1, .f32⟩
  | 53 => ⟨S2x8192x1, .f32⟩
  | 54 => ⟨S2x8192x512, .f32⟩
  | 55 => ⟨S2x8192x512, .f32⟩
  | 56 => ⟨S1x1x512, .f32⟩
  | 57 => ⟨S2x8192x512, .f32⟩
  | 58 => ⟨S2x8192x512, .f32⟩
  | 59 => ⟨S2x8192x1024, .f32⟩
  | 60 => ⟨S1024x1024, .f32⟩
  | 61 => ⟨S2x8192x1024, .f32⟩
  | 62 => ⟨S2x8192x1024, .f32⟩
  | 63 => ⟨S2x8192x1024, .f32⟩
  | 64 => ⟨S_, .f32⟩
  | 65 => ⟨S2x8192, .f32⟩
  | 66 => ⟨S2x8192x1, .f32⟩
  | 67 => ⟨S_, .f32⟩
  | 68 => ⟨S2x8192x1, .f32⟩
  | 69 => ⟨S2x8192x1, .f32⟩
  | 70 => ⟨S_, .f32⟩
  | 71 => ⟨S2x8192x1, .f32⟩
  | 72 => ⟨S2x8192x1, .f32⟩
  | 73 => ⟨S2x8192x1, .f32⟩
  | 74 => ⟨S2x8192x1024, .f32⟩
  | 75 => ⟨S2x8192x1024, .f32⟩
  | 76 => ⟨S1x1x1024, .f32⟩
  | 77 => ⟨S2x8192x1024, .f32⟩
  | 78 => ⟨S2x8192x1024, .f32⟩
  | 79 => ⟨S1024x1024, .f32⟩
  | 80 => ⟨S2x8192x1024, .f32⟩
  | 81 => ⟨S2x8192x4x256, .f32⟩
  | 82 => ⟨S2x256x2048, .f32⟩
  | 83 => ⟨S2x256x2x4x256, .f32⟩
  | 84 => ⟨S2x256x1x4x256, .f32⟩
  | 85 => ⟨S2x256x4x256, .f32⟩
  | 86 => ⟨S2x256x1x4x256, .f32⟩
  | 87 => ⟨S2x256x4x256, .f32⟩
  | 88 => ⟨S2x4x8192x256, .f32⟩
  | 89 => ⟨S_, .f32⟩
  | 90 => ⟨S2x4x8192x256, .f32⟩
  | 91 => ⟨S2x4x8192x256, .f32⟩
  | 92 => ⟨S_, .f32⟩
  | 93 => ⟨S2x4x8192, .f32⟩
  | 94 => ⟨S_, .f32⟩
  | 95 => ⟨S2x4x8192, .f32⟩
  | 96 => ⟨S2x4x8192, .f32⟩
  | 97 => ⟨S2x4x8192x1, .f32⟩
  | 98 => ⟨S2x4x8192x256, .f32⟩
  | 99 => ⟨S2x4x8192x256, .f32⟩
  | 100 => ⟨S2x4x8192x256, .f32⟩
  | 101 => ⟨S_, .f32⟩
  | 102 => ⟨S2x4x8192, .f32⟩
  | 103 => ⟨S2x4x8192x1, .f32⟩
  | 104 => ⟨S2x4x8192x256, .f32⟩
  | 105 => ⟨S2x4x8192x256, .f32⟩
  | 106 => ⟨S2x4x256x8192, .f32⟩
  | 107 => ⟨S2x8192x4x256, .f32⟩
  | 108 => ⟨S2x8192x1024, .f32⟩
  | 109 => ⟨S1024x1024, .f32⟩
  | 110 => ⟨S2x8192x1024, .f32⟩
  | 111 => ⟨S2x8192x1024, .f32⟩
  | 112 => ⟨S2x8192x1024, .f32⟩
  | 113 => ⟨S_, .f32⟩
  | 114 => ⟨S2x8192, .f32⟩
  | 115 => ⟨S2x8192x1, .f32⟩
  | 116 => ⟨S_, .f32⟩
  | 117 => ⟨S2x8192x1, .f32⟩
  | 118 => ⟨S2x8192x1, .f32⟩
  | 119 => ⟨S_, .f32⟩
  | 120 => ⟨S2x8192x1, .f32⟩
  | 121 => ⟨S2x8192x1, .f32⟩
  | 122 => ⟨S2x8192x1, .f32⟩
  | 123 => ⟨S2x8192x1024, .f32⟩
  | 124 => ⟨S2x8192x1024, .f32⟩
  | 125 => ⟨S1x1x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_cst_16 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Peer.lean ====
abbrev S16384x1024 : Shape := ⟨2, ![16384, 1024]⟩
abbrev S1024x16384 : Shape := ⟨2, ![1024, 16384]⟩
abbrev S8x128x16384 : Shape := ⟨3, ![8, 128, 16384]⟩
abbrev S1x1024 : Shape := ⟨2, ![1, 1024]⟩
abbrev S512x1024 : Shape := ⟨2, ![512, 1024]⟩
abbrev S2048x1024 : Shape := ⟨2, ![2048, 1024]⟩
abbrev S1024x2048 : Shape := ⟨2, ![1024, 2048]⟩
abbrev S8x128x512 : Shape := ⟨3, ![8, 128, 512]⟩
abbrev S1024x512 : Shape := ⟨2, ![1024, 512]⟩
abbrev S2048x512 : Shape := ⟨2, ![2048, 512]⟩
abbrev S256x512 : Shape := ⟨2, ![256, 512]⟩
abbrev S1x1x512 : Shape := ⟨3, ![1, 1, 512]⟩
abbrev S1x512 : Shape := ⟨2, ![1, 512]⟩
abbrev S1x128 : Shape := ⟨2, ![1, 128]⟩
abbrev S16x128 : Shape := ⟨2, ![16, 128]⟩
abbrev S1x128x128 : Shape := ⟨3, ![1, 128, 128]⟩
abbrev S128x128 : Shape := ⟨2, ![128, 128]⟩
abbrev S8x16x128 : Shape := ⟨3, ![8, 16, 128]⟩
abbrev S1x16x128 : Shape := ⟨3, ![1, 16, 128]⟩
abbrev S512 : Shape := ⟨1, ![512]⟩
abbrev S512x1 : Shape := ⟨2, ![512, 1]⟩

abbrev nBuf : Space → Nat
  | .hbm => 10
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x16384, .bf16⟩
  | .hbm, ⟨3, _⟩ => ⟨S8x128x16384, .f32⟩
  | .hbm, ⟨4, _⟩ => ⟨S8x128x16384, .f32⟩
  | .hbm, ⟨5, _⟩ => ⟨S8x128x16384, .bf16⟩
  | .hbm, ⟨6, _⟩ => ⟨S8x128x16384, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .f32⟩
  | .local _ .vmem, ⟨20, _⟩ => ⟨S2048x512, .bf16⟩
  | .local _ .vmem, ⟨21, _⟩ => ⟨S2048x512, .f32⟩
  | .local _ .vmem, ⟨22, _⟩ => ⟨S256x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 8], ![false, false]⟩

def k0_off1 (i : grid0.Coords) (c0_i32_1 : BitVec 32) : Fin 3 → Nat :=
  let c0 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let v5 : Index := Scalar.indexCast v4
  let c0_2 : Index := 0#32
  ![0, v5.toNat, 0]
def k0_off2 (i : grid0.Coords) (c0_i32_146 : BitVec 32) : Fin 3 → Nat :=
  let c1_147 : Index := 1#32
  let arg1 : BitVec 32 := BitVec.ofNat 32 (i 1).val
  let c16_i32_145 : BitVec 32 := 16#32
  let v259 : BitVec 32 := Scalar.muli arg1 c16_i32_145
  let v260 : BitVec 32 := Scalar.addi v259 c0_i32_146
  let v261 : Index := Scalar.indexCast v260
  let c0_148 : Index := 0#32
  ![1, v261.toNat, 0]
def k0_off3 (i : grid0.Coords) (c0_i32_306 : BitVec 32) : Fin 3 → Nat :=
  let c2_307 : Index := 2#32
  let arg1 : BitVec 32 := BitVec.ofNat 32 (i 1).val
  let c16_i32_305 : BitVec 32 := 16#32
  let v515 : BitVec 32 := Scalar.muli arg1 c16_i32_305
  let v516 : BitVec 32 := Scalar.addi v515 c0_i32_306
  let v517 : Index := Scalar.indexCast v516
  let c0_308 : Index := 0#32
  ![2, v517.toNat, 0]
def k0_off4 (i : grid0.Coords) (c0_i32_466 : BitVec 32) : Fin 3 → Nat :=
  let c3_467 : Index := 3#32
  let arg1 : BitVec 32 := BitVec.ofNat 32 (i 1).val
  let c16_i32_465 : BitVec 32 := 16#32
  let v771 : BitVec 32 := Scalar.muli arg1 c16_i32_465
  let v772 : BitVec 32 := Scalar.addi v771 c0_i32_466
  let v773 : Index := Scalar.indexCast v772
  let c0_468 : Index := 0#32
  ![3, v773.toNat, 0]
def k0_off5 (i : grid0.Coords) (c0_i32_626 : BitVec 32) : Fin 3 → Nat :=
  let c4_627 : Index := 4#32
  let arg1 : BitVec 32 := BitVec.ofNat 32 (i 1).val
  let c16_i32_625 : BitVec 32 := 16#32
  let v1027 : BitVec 32 := Scalar.muli arg1 c16_i32_625
  let v1028 : BitVec 32 := Scalar.addi v1027 c0_i32_626
  let v1029 : Index := Scalar.indexCast v1028
  let c0_628 : Index := 0#32
  ![4, v1029.toNat, 0]
def k0_off6 (i : grid0.Coords) (c0_i32_786 : BitVec 32) : Fin 3 → Nat :=
  let c5_787 : Index := 5#32
  let arg1 : BitVec 32 := BitVec.ofNat 32 (i 1).val
  let c16_i32_785 : BitVec 32 := 16#32
  let v1283 : BitVec 32 := Scalar.muli arg1 c16_i32_785
  let v1284 : BitVec 32 := Scalar.addi v1283 c0_i32_786
  let v1285 : Index := Scalar.indexCast v1284
  let c0_788 : Index := 0#32
  ![5, v1285.toNat, 0]
def k0_off7 (i : grid0.Coords) (c0_i32_946 : BitVec 32) : Fin 3 → Nat :=
  let c6_947 : Index := 6#32
  let arg1 : BitVec 32 := BitVec.ofNat 32 (i 1).val
  let c16_i32_945 : BitVec 32 := 16#32
  let v1539 : BitVec 32 := Scalar.muli arg1 c16_i32_945
  let v1540 : BitVec 32 := Scalar.addi v1539 c0_i32_946
  let v1541 : Index := Scalar.indexCast v1540
  let c0_948 : Index := 0#32
  ![6, v1541.toNat, 0]
def k0_off8 (i : grid0.Coords) (c0_i32_1106 : BitVec 32) : Fin 3 → Nat :=
  let c7_1107 : Index := 7#32
  let arg1 : BitVec 32 := BitVec.ofNat 32 (i 1).val
  let c16_i32_1105 : BitVec 32 := 16#32
  let v1795 : BitVec 32 := Scalar.muli arg1 c16_i32_1105
  let v1796 : BitVec 32 := Scalar.addi v1795 c0_i32_1106
  let v1797 : Index := Scalar.indexCast v1796
  let c0_1108 : Index := 0#32
  ![7, v1797.toNat, 0]
def k0_cond2 (i : grid0.Coords) : BitVec 1 :=
  let arg1 : BitVec 32 := BitVec.ofNat 32 (i 1).val
  let c7_i32_7410 : BitVec 32 := 7#32
  let v15057 : BitVec 1 := Scalar.cmpi .eq arg1 c7_i32_7410
  let v15058 : BitVec 32 := Scalar.extui v15057
  let c0_i32_7411 : BitVec 32 := 0#32
  let v15059 : BitVec 1 := Scalar.cmpi .ne v15058 c0_i32_7411
  v15059

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PeerReferenceIdeal.lean ====
abbrev S16384x1024 : Shape := ⟨2, ![16384, 1024]⟩
abbrev S1024x16384 : Shape := ⟨2, ![1024, 16384]⟩
abbrev S8x128x16384 : Shape := ⟨3, ![8, 128, 16384]⟩
abbrev S1x1024 : Shape := ⟨2, ![1, 1024]⟩
abbrev S16384x16384 : Shape := ⟨2, ![16384, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384 : Shape := ⟨1, ![16384]⟩
abbrev S16384x1 : Shape := ⟨2, ![16384, 1]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x16384, .bf16⟩
  | .hbm, ⟨3, _⟩ => ⟨S8x128x16384, .f32⟩
  | .hbm, ⟨4, _⟩ => ⟨S8x128x16384, .f32⟩
  | .hbm, ⟨5, _⟩ => ⟨S8x128x16384, .bf16⟩
  | .hbm, ⟨6, _⟩ => ⟨S8x128x16384, .bf16⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S1024x16384, .f32⟩
  | .hbm, ⟨12, _⟩ => ⟨S16384x16384, .f32⟩
  | .hbm, ⟨13, _⟩ => ⟨S8x128x16384, .f32⟩
  | .hbm, ⟨14, _⟩ => ⟨S8x1x128x16384, .f32⟩
  | .hbm, ⟨15, _⟩ => ⟨S8x128x1x16384, .f32⟩
  | .hbm, ⟨16, _⟩ => ⟨S8x128x128x16384, .f32⟩
  | .hbm, ⟨17, _⟩ => ⟨S8x128x128x16384, .f32⟩
  | .hbm, ⟨18, _⟩ => ⟨S8x128x128x16384, .i1⟩
  | .hbm, ⟨19, _⟩ => ⟨S8x128x1x16384, .f32⟩
  | .hbm, ⟨20, _⟩ => ⟨S8x128x16384, .f32⟩
  | .hbm, ⟨21, _⟩ => ⟨S8x1x128x16384, .f32⟩
  | .hbm, ⟨22, _⟩ => ⟨S_, .f32⟩
  | .hbm, ⟨23, _⟩ => ⟨S_, .f32⟩
  | .hbm, ⟨24, _⟩ => ⟨S8x128x128x16384, .f32⟩
  | .hbm, ⟨25, _⟩ => ⟨S8x128x128x16384, .f32⟩
  | .hbm, ⟨26, _⟩ => ⟨S8x128x128x16384, .f32⟩
  | .hbm, ⟨27, _⟩ => ⟨S8x128x128x16384, .f32⟩
  | .hbm, ⟨28, _⟩ => ⟨S8x128x128x16384, .f32⟩
  | .hbm, ⟨29, _⟩ => ⟨S_, .f32⟩
  | .hbm, ⟨30, _⟩ => ⟨S128x128x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .f32⟩
  | .hbm, ⟨41, _⟩ => ⟨S_, .f32⟩
  | .hbm, ⟨42, _⟩ => ⟨S16384x16384, .f32⟩
  | .hbm, ⟨43, _⟩ => ⟨S16384x16384, .f32⟩
  | .hbm, ⟨44, _⟩ => ⟨S_, .f32⟩
  | .hbm, ⟨45, _⟩ => ⟨S16384x16384, .f32⟩
  | .hbm, ⟨46, _⟩ => ⟨S16384x16384, .f32⟩
  | .hbm, ⟨47, _⟩ => ⟨S16384x16384, .f32⟩
  | .hbm, ⟨48, _⟩ => ⟨S16384x16384, .f32⟩
  | .hbm, ⟨49, _⟩ => ⟨S16384x16384, .f32⟩
  | .hbm, ⟨50, _⟩ => ⟨S16384x16384, .f32⟩
  | .hbm, ⟨51, _⟩ => ⟨S1024x16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Trip.lean ====
module

public import proofs.«01_k».proof.Proof.Gen.KernelIdeal.Value
public import Idealize.ShloMosaic.Lib.WritesUnit
public import Idealize.ShloMosaic.Lib.Pointwise

@[expose] public section

set_option maxRecDepth 65536

noncomputable section

namespace Cert.KernelIdeal.Trip

open Cert.KernelIdeal Cert.KernelIdeal.Gen Idealize.ShloMosaic Idealize.ShloMosaic.TcCoe Idealize.SL.Sem
open Idealize.ShloMosaic.Tactic

variable {F : FTy → Type} [FloatOps F] [Named F]

/-! ## What one head's payloads are, whichever head

The kernel's text repeats one head's operations four times under different names; these are the names of the first
head's, and every other head's payload is one of them by definition. -/

/-- The scores of one head: the masked queries against a block of keys. -/
abbrev headZ (q : FVec F S256x256 .bf16) (K : Vec F S1x256x256 .bf16) : FVec F S1x256x256 .f32 := k0_pay31 q K

/-- The weights of one head below the diagonal, from its scores and what it carries. -/
abbrev headW (tri : FVec F S256x256 .bf16) (Z : Vec F S1x256x256 .f32) (C : Vec F S1x256x128 .f32) :
    FVec F S256x256 .bf16 := k0_pay8 tri (k0_pay4 Z) (k0_pay5 Z) C

/-- What one head carries on from a block below the diagonal. -/
abbrev headC (tri : FVec F S256x256 .bf16) (Z : Vec F S1x256x256 .f32) (C : Vec F S1x256x128 .f32) :
    FVec F S1x256x128 .f32 := k0_pay9 tri (k0_pay5 Z) C

/-- Head `h`'s page of a four-page array. -/
def page {e : EltTy} {n : ℕ} (X : Vec F ⟨3, ![4, 256, n]⟩ e) (h : Fin 4) : Vec F ⟨3, ![1, 256, n]⟩ e :=
  fun y => X (ix3 h (y 1) (y 2))

theorem ld_page {e : EltTy} {n : ℕ} (X : Vec F ⟨3, ![4, 256, n]⟩ e) (h : Fin 4) (o : Fin 3 → ℕ) (ho : o = ![h.val, 0, 0])
    (inb : ∀ a, o a + (![1, 256, n] : Fin 3 → ℕ) a ≤ (![4, 256, n] : Fin 3 → ℕ) a) :
    View.ld X (Rect.unit (s := ⟨3, ![4, 256, n]⟩) o ![1, 256, n] inb) = page X h := by
  subst ho
  funext y
  refine congrArg X (funext fun a => Fin.ext ?_)
  match a with
  | ⟨0, _⟩ =>
    have : (y 0).val = 0 := by have := (y 0).isLt; simp at this; omega
    show h.val + 1 * (y 0).val = h.val; omega
  | ⟨1, _⟩ => show 0 + 1 * (y 1).val = (y 1).val; omega
  | ⟨2, _⟩ => show 0 + 1 * (y 2).val = (y 2).val; omega

theorem in_page {n : ℕ} (h : Fin 4) (r : Fin 256) (l : Fin n) (a : Fin 3) :
    ((ix3 h r l : Shape.Idx ⟨3, ![4, 256, n]⟩) a).val
      = (![h.val, 0, 0] : Fin 3 → ℕ) a + ((ix3 0 r l : Shape.Idx ⟨3, ![1, 256, n]⟩) a).val := by
  fin_cases a
  · rfl
  · exact (Nat.zero_add _).symm
  · exact (Nat.zero_add _).symm

theorem in_cols (r : Fin 256) (j : Fin 1024) (l : Fin 256) (o : ℕ) (hj : j.val = o + l.val) (a : Fin 2) :
    ((ix2 r j : Shape.Idx ⟨2, ![256, 1024]⟩) a).val
      = (![0, o] : Fin 2 → ℕ) a + ((ix2 r l : Shape.Idx ⟨2, ![256, 256]⟩) a).val := by
  fin_cases a
  · exact (Nat.zero_add _).symm
  · exact hj

variable (𝒱 : Variants) (c : Dev nD) (bd : Option 𝒱.V) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S256x256 .f32) (harg7 : arg7.IsWhole) (arg8 : Memref sig .tc .vmem S4x256x128 .f32) (harg8 : arg8.IsWhole) (arg9 : Memref sig .tc .vmem S4x256x256 .f32) (harg9 : arg9.IsWhole) (arg10 : Memref sig .tc .vmem S256x1024 .bf16) (harg10 : arg10.IsWhole) (arg2 : BitVec 32) (v7 : IVec S256x256 1) (v12 : IVec S256x256 1) (v17 : IVec S256x256 1) (v22 : IVec S256x256 1) (v24 : FVec F S256x256 .bf16) (v25 : FVec F S256x256 .bf16) (v26 : FVec F S256x256 .bf16) (v27 : FVec F S256x256 .bf16) (v34 : FVec F S256x256 .bf16) (v227 : BitVec 32) (X_arg4 : BufTy.Contents (Elt F) arg4.view.ty) (X_arg5 : BufTy.Contents (Elt F) arg5.view.ty) (k : Fin (k0_t1_loop i).trips) (acc : BitVec 32) (f7 : BufTy.Contents (Elt F) arg7.view.ty) (f8 : BufTy.Contents (Elt F) arg8.view.ty) (f9 : BufTy.Contents (Elt F) arg9.view.ty) (f10 : BufTy.Contents (Elt F) arg10.view.ty)

/-- One trip leaves in the accumulator its sum with the product of the weights and the masked values. -/
theorem trip7 : arg7.view.read (Elt F) (arg7.view.writes (Elt F) f7 (tripL_k0_t1 (F := F) 𝒱 c bd i arg3 harg3 arg4 harg4 arg5 harg5 arg6 harg6 arg7 harg7 arg8 harg8 arg9 harg9 arg10 harg10 arg2 v7 v12 v17 v22 v24 v25 v26 v27 v34 v227 X_arg4 X_arg5 k acc f7 f8 f9 f10).1)
    = k0_pay3 v7 v12 v17 v22 (View.ld (arg5.view.read (Elt F) X_arg5) (Rect.unit (s := S1x8192x256) (k0_off3 i k) S1x256x256.size (k0_off3_inb i k)))
        (arg7.view.read (Elt F) f7) (arg10.view.read (Elt F) f10) := by
  unfold tripL_k0_t1 trip_k0_t1
  dsimp only
  have hz : (![0, 0] : Fin 2 → ℕ) = fun _ => 0 := by funext a; fin_cases a <;> rfl
  funext y
  refine (View.read_writes_cons_unit_of_mem _ _ _ _ _ _ y rfl ?_).trans ?_
  · intro a; fin_cases a <;> exact (Nat.zero_add _).symm
  simp only [View.readAt_eq_ld, View.ld_unit_zero (S := S256x256) hz, View.ld_unit_zero (S := S256x1024) hz]

/-- One trip leaves in each head's page of scores that head's scores of the block of keys it loads. -/
theorem trip9 (h : Fin 4) (r : Fin 256) (l : Fin 256) :
    arg9.view.read (Elt F) (arg9.view.writes (Elt F) f9 (tripL_k0_t1 (F := F) 𝒱 c bd i arg3 harg3 arg4 harg4 arg5 harg5 arg6 harg6 arg7 harg7 arg8 harg8 arg9 harg9 arg10 harg10 arg2 v7 v12 v17 v22 v24 v25 v26 v27 v34 v227 X_arg4 X_arg5 k acc f7 f8 f9 f10).2.2.1) (ix3 h r l)
    = headZ ((![v24, v25, v26, v27] : Fin 4 → FVec F S256x256 .bf16) h)
        (View.ld (arg4.view.read (Elt F) X_arg4) (Rect.unit (s := S1x8192x256) (k0_off4 i k) S1x256x256.size (k0_off4_inb i k)))
        (ix3 0 r l) := by
  unfold tripL_k0_t1 trip_k0_t1
  dsimp only
  sl_unfold_words
  obtain rfl | rfl | rfl | rfl := (by decide : ∀ h : Fin 4, h = 0 ∨ h = 1 ∨ h = 2 ∨ h = 3) h
  · rw [View.read_writes_cons_unit_of_not_mem _ _ _ _ _ _ rfl 0 (Or.inl (by show (0 : ℕ) < 3; decide)),
      View.read_writes_cons_unit_of_not_mem _ _ _ _ _ _ rfl 0 (Or.inl (by show (0 : ℕ) < 2; decide)),
      View.read_writes_cons_unit_of_not_mem _ _ _ _ _ _ rfl 0 (Or.inl (by show (0 : ℕ) < 1; decide))]
    rw [View.read_writes_cons_unit_of_mem _ _ _ _ _ _ (ix3 0 r l) rfl (in_page _ r l)]
    rfl
  · rw [View.read_writes_cons_unit_of_not_mem _ _ _ _ _ _ rfl 0 (Or.inl (by show (1 : ℕ) < 3; decide)),
      View.read_writes_cons_unit_of_not_mem _ _ _ _ _ _ rfl 0 (Or.inl (by show (1 : ℕ) < 2; decide))]
    rw [View.read_writes_cons_unit_of_mem _ _ _ _ _ _ (ix3 0 r l) rfl (in_page _ r l)]
    rfl
  · rw [View.read_writes_cons_unit_of_not_mem _ _ _ _ _ _ rfl 0 (Or.inl (by show (2 : ℕ) < 3; decide))]
    rw [View.read_writes_cons_unit_of_mem _ _ _ _ _ _ (ix3 0 r l) rfl (in_page _ r l)]
    rfl
  · rw [View.read_writes_cons_unit_of_mem _ _ _ _ _ _ (ix3 0 r l) rfl (in_page _ r l)]
    rfl

/-- One trip leaves in each head's page of carries what the head carries on. -/
theorem trip8 (h : Fin 4) (r : Fin 256) (l : Fin 128) :
    arg8.view.read (Elt F) (arg8.view.writes (Elt F) f8 (tripL_k0_t1 (F := F) 𝒱 c bd i arg3 harg3 arg4 harg4 arg5 harg5 arg6 harg6 arg7 harg7 arg8 harg8 arg9 harg9 arg10 harg10 arg2 v7 v12 v17 v22 v24 v25 v26 v27 v34 v227 X_arg4 X_arg5 k acc f7 f8 f9 f10).2.1) (ix3 h r l)
    = headC v34 (page (arg9.view.read (Elt F) f9) h) (page (arg8.view.read (Elt F) f8) h) (ix3 0 r l) := by
  unfold tripL_k0_t1 trip_k0_t1
  dsimp only
  sl_unfold_words
  simp only [View.readAt_eq_ld]
  obtain rfl | rfl | rfl | rfl := (by decide : ∀ h : Fin 4, h = 0 ∨ h = 1 ∨ h = 2 ∨ h = 3) h
  · rw [View.read_writes_cons_unit_of_not_mem _ _ _ _ _ _ rfl 0 (Or.inl (by show (0 : ℕ) < 3; decide)),
      View.read_writes_cons_unit_of_not_mem _ _ _ _ _ _ rfl 0 (Or.inl (by show (0 : ℕ) < 2; decide)),
      View.read_writes_cons_unit_of_not_mem _ _ _ _ _ _ rfl 0 (Or.inl (by show (0 : ℕ) < 1; decide))]
    rw [View.read_writes_cons_unit_of_mem _ _ _ _ _ _ (ix3 0 r l) rfl (in_page _ r l)]
    have h9 := ld_page (arg9.view.read (Elt F) f9) 0 ![0, 0, 0] rfl inb_S4x256x256_S1x256x256_0_0_0
    have h8 := ld_page (arg8.view.read (Elt F) f8) 0 ![0, 0, 0] rfl inb_S4x256x128_S1x256x128_0_0_0
    refine Eq.trans ?_ (congrArg₂ (fun Z C => headC v34 Z C (ix3 0 r l)) h9 h8)
    rfl
  · rw [View.read_writes_cons_unit_of_not_mem _ _ _ _ _ _ rfl 0 (Or.inl (by show (1 : ℕ) < 3; decide)),
      View.read_writes_cons_unit_of_not_mem _ _ _ _ _ _ rfl 0 (Or.inl (by show (1 : ℕ) < 2; decide))]
    rw [View.read_writes_cons_unit_of_mem _ _ _ _ _ _ (ix3 0 r l) rfl (in_page _ r l)]
    have h9 := ld_page (arg9.view.read (Elt F) f9) 1 ![1, 0, 0] rfl inb_S4x256x256_S1x256x256_1_0_0
    have h8 := ld_page (arg8.view.read (Elt F) f8) 1 ![1, 0, 0] rfl inb_S4x256x128_S1x256x128_1_0_0
    refine Eq.trans ?_ (congrArg₂ (fun Z C => headC v34 Z C (ix3 0 r l)) h9 h8)
    rfl
  · rw [View.read_writes_cons_unit_of_not_mem _ _ _ _ _ _ rfl 0 (Or.inl (by show (2 : ℕ) < 3; decide))]
    rw [View.read_writes_cons_unit_of_mem _ _ _ _ _ _ (ix3 0 r l) rfl (in_page _ r l)]
    have h9 := ld_page (arg9.view.read (Elt F) f9) 2 ![2, 0, 0] rfl inb_S4x256x256_S1x256x256_2_0_0
    have h8 := ld_page (arg8.view.read (Elt F) f8) 2 ![2, 0, 0] rfl inb_S4x256x128_S1x256x128_2_0_0
    refine Eq.trans ?_ (congrArg₂ (fun Z C => headC v34 Z C (ix3 0 r l)) h9 h8)
    rfl
  · rw [View.read_writes_cons_unit_of_mem _ _ _ _ _ _ (ix3 0 r l) rfl (in_page _ r l)]
    have h9 := ld_page (arg9.view.read (Elt F) f9) 3 ![3, 0, 0] rfl inb_S4x256x256_S1x256x256_3_0_0
    have h8 := ld_page (arg8.view.read (Elt F) f8) 3 ![3, 0, 0] rfl inb_S4x256x128_S1x256x128_3_0_0
    refine Eq.trans ?_ (congrArg₂ (fun Z C => headC v34 Z C (ix3 0 r l)) h9 h8)
    rfl

/-- One trip leaves in each head's columns of weights that head's weights. -/
theorem trip10 (h : Fin 4) (r : Fin 256) (l : Fin 256) (j : Fin 1024) (hj : j.val = 256 * h.val + l.val) :
    arg10.view.read (Elt F) (arg10.view.writes (Elt F) f10 (tripL_k0_t1 (F := F) 𝒱 c bd i arg3 harg3 arg4 harg4 arg5 harg5 arg6 harg6 arg7 harg7 arg8 harg8 arg9 harg9 arg10 harg10 arg2 v7 v12 v17 v22 v24 v25 v26 v27 v34 v227 X_arg4 X_arg5 k acc f7 f8 f9 f10).2.2.2) (ix2 r j)
    = headW v34 (page (arg9.view.read (Elt F) f9) h) (page (arg8.view.read (Elt F) f8) h) (ix2 r l) := by
  unfold tripL_k0_t1 trip_k0_t1
  dsimp only
  sl_unfold_words
  simp only [View.readAt_eq_ld]
  obtain rfl | rfl | rfl | rfl := (by decide : ∀ h : Fin 4, h = 0 ∨ h = 1 ∨ h = 2 ∨ h = 3) h
  · rw [View.read_writes_cons_unit_of_not_mem _ _ _ _ _ _ rfl 1 (Or.inl (by show j.val < 768; have := l.isLt; have : j.val = 256 * 0 + l.val := hj; omega)),
      View.read_writes_cons_unit_of_not_mem _ _ _ _ _ _ rfl 1 (Or.inl (by show j.val < 512; have := l.isLt; have : j.val = 256 * 0 + l.val := hj; omega)),
      View.read_writes_cons_unit_of_not_mem _ _ _ _ _ _ rfl 1 (Or.inl (by show j.val < 256; have := l.isLt; have : j.val = 256 * 0 + l.val := hj; omega))]
    refine (View.read_writes_cons_unit_of_mem _ _ _ _ _ _ (ix2 r l) rfl ?_).trans ?_
    · exact in_cols r j l _ hj
    have h9 := ld_page (arg9.view.read (Elt F) f9) 0 ![0, 0, 0] rfl inb_S4x256x256_S1x256x256_0_0_0
    have h8 := ld_page (arg8.view.read (Elt F) f8) 0 ![0, 0, 0] rfl inb_S4x256x128_S1x256x128_0_0_0
    refine Eq.trans ?_ (congrArg₂ (fun Z C => headW v34 Z C (ix2 r l)) h9 h8)
    rfl
  · rw [View.read_writes_cons_unit_of_not_mem _ _ _ _ _ _ rfl 1 (Or.inl (by show j.val < 768; have := l.isLt; have : j.val = 256 * 1 + l.val := hj; omega)),
      View.read_writes_cons_unit_of_not_mem _ _ _ _ _ _ rfl 1 (Or.inl (by show j.val < 512; have := l.isLt; have : j.val = 256 * 1 + l.val := hj; omega))]
    refine (View.read_writes_cons_unit_of_mem _ _ _ _ _ _ (ix2 r l) rfl ?_).trans ?_
    · exact in_cols r j l _ hj
    have h9 := ld_page (arg9.view.read (Elt F) f9) 1 ![1, 0, 0] rfl inb_S4x256x256_S1x256x256_1_0_0
    have h8 := ld_page (arg8.view.read (Elt F) f8) 1 ![1, 0, 0] rfl inb_S4x256x128_S1x256x128_1_0_0
    refine Eq.trans ?_ (congrArg₂ (fun Z C => headW v34 Z C (ix2 r l)) h9 h8)
    rfl
  · rw [View.read_writes_cons_unit_of_not_mem _ _ _ _ _ _ rfl 1 (Or.inl (by show j.val < 768; have := l.isLt; have : j.val = 256 * 2 + l.val := hj; omega))]
    refine (View.read_writes_cons_unit_of_mem _ _ _ _ _ _ (ix2 r l) rfl ?_).trans ?_
    · exact in_cols r j l _ hj
    have h9 := ld_page (arg9.view.read (Elt F) f9) 2 ![2, 0, 0] rfl inb_S4x256x256_S1x256x256_2_0_0
    have h8 := ld_page (arg8.view.read (Elt F) f8) 2 ![2, 0, 0] rfl inb_S4x256x128_S1x256x128_2_0_0
    refine Eq.trans ?_ (congrArg₂ (fun Z C => headW v34 Z C (ix2 r l)) h9 h8)
    rfl
  · refine (View.read_writes_cons_unit_of_mem _ _ _ _ _ _ (ix2 r l) rfl ?_).trans ?_
    · exact in_cols r j l _ hj
    have h9 := ld_page (arg9.view.read (Elt F) f9) 3 ![3, 0, 0] rfl inb_S4x256x256_S1x256x256_3_0_0
    have h8 := ld_page (arg8.view.read (Elt F) f8) 3 ![3, 0, 0] rfl inb_S4x256x128_S1x256x128_3_0_0
    refine Eq.trans ?_ (congrArg₂ (fun Z C => headW v34 Z C (ix2 r l)) h9 h8)
    rfl

end Cert.KernelIdeal.Trip

end
-- ==== Proof.Maths.lean ====
/- The real-number side of the attention: one query's score at every key position, what staying costs, what is left for the
   keys before it, and the weight of a key. Nothing here mentions a program. -/
module

public import Idealize.ShloMosaic.PureOps.Ideal
public import Mathlib.Analysis.SpecialFunctions.Pow.Real
public import Mathlib.Algebra.BigOperators.Intervals

@[expose] public section

noncomputable section

namespace Cert.Stick

open Idealize.ShloMosaic Finset

/-- The softplus of a score: minus the logarithm of the chance of passing the key by. -/
def sp (x : ℝ) : ℝ := Real.log (1 + Real.exp x)

/-- What passing by every key from `m` up to the query's own position costs. -/
def tail (z : ℕ → ℝ) (n m : ℕ) : ℝ := ∑ u ∈ Ico m n, sp (z u)

/-- The weight the query at position `n` gives the key at position `s`. -/
def wt (z : ℕ → ℝ) (n s : ℕ) : ℝ := if s < n then Real.exp (z s - sp (z s) - tail z n (s + 1)) else 0

theorem one_add_exp_pos (x : ℝ) : 0 < 1 + Real.exp x := by positivity

/-- The maximum and the logarithm the programs split the softplus into. -/
theorem sp_eq_max (x : ℝ) : max x 0 + Real.log (1 + Real.exp (-|x|)) = sp x := by
  unfold sp
  rcases le_total 0 x with h | h
  · rw [max_eq_left h, abs_of_nonneg h]
    have : 1 + Real.exp x = Real.exp x * (1 + Real.exp (-x)) := by
      rw [mul_add, mul_one, ← Real.exp_add, add_neg_cancel, Real.exp_zero, add_comm]
    rw [this, Real.log_mul (Real.exp_pos x).ne' (one_add_exp_pos _).ne', Real.log_exp]
  · rw [max_eq_right h, abs_of_nonpos h, neg_neg, zero_add]

/-- The softplus at the opposite score. -/
theorem sp_neg (x : ℝ) : sp (-x) = sp x - x := by
  unfold sp
  have : 1 + Real.exp x = Real.exp x * (1 + Real.exp (-x)) := by
    rw [mul_add, mul_one, ← Real.exp_add, add_neg_cancel, Real.exp_zero, add_comm]
  rw [this, Real.log_mul (Real.exp_pos x).ne' (one_add_exp_pos _).ne', Real.log_exp]
  ring

/-- A power of two at a multiple of log2 e is an exponential. -/
theorem two_rpow (x : ℝ) : Real.rpow 2 (x * (Real.log 2)⁻¹) = Real.exp x := by
  have h2 : Real.log 2 ≠ 0 := (Real.log_pos (by norm_num)).ne'
  show (2 : ℝ) ^ (x * (Real.log 2)⁻¹) = Real.exp x
  rw [Real.rpow_def_of_pos (by norm_num)]
  congr 1
  field_simp

/-- The larger of two reals, read among the extended reals. -/
theorem coe_max (x y : ℝ) : max (x : EReal) (y : EReal) = ((max x y : ℝ) : EReal) :=
  (EReal.coe_strictMono.monotone.map_max).symm

/-- A sum of reals, read among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- The absolute value of a real, read among the extended reals. -/
theorem absf_coe (x : ℝ) : (FloatOps.absf ((x : EReal) : Ideal .f32) : Ideal .f32) = ((|x| : ℝ) : EReal) := by
  show max (x : EReal) (-(x : EReal)) = _
  rw [← EReal.coe_neg, coe_max]; rfl

/-- The softplus as the kernel spells it. -/
theorem spE (x : ℝ) :
    max (x : EReal) 0 + Ideal.log (1 + Ideal.exp2 (((|x| : ℝ) : EReal) * ((-(Real.log 2)⁻¹ : ℝ) : EReal)))
      = ((sp x : ℝ) : EReal) := by
  rw [← EReal.coe_mul, Ideal.exp2_coe, show |x| * -(Real.log 2)⁻¹ = (-|x|) * (Real.log 2)⁻¹ by ring, two_rpow,
    ← EReal.coe_one, ← EReal.coe_add, Ideal.log_coe, if_neg (not_le.mpr (one_add_exp_pos _)), ← EReal.coe_zero, coe_max,
    ← EReal.coe_add, sp_eq_max]

/-- The exponential as the kernel spells it. -/
theorem expE (x : ℝ) : Ideal.exp2 ((x : EReal) * (((Real.log 2)⁻¹ : ℝ) : EReal)) = ((Real.exp x : ℝ) : EReal) := by
  rw [← EReal.coe_mul, Ideal.exp2_coe, two_rpow]

/-- A sum over one block's positions above `c`, of a function of the key position counted only below `n`, is the sum over
    the keys from `B + c + 1` on. -/
theorem sum_above (f : ℕ → ℝ) (B n c b : ℕ) (hb : b = 256) (hn : n ≤ B + b) :
    ∑ k : Fin b, (if c < k.val then (if B + k.val < n then f (B + k.val) else 0) else 0) = ∑ u ∈ Ico (B + c + 1) n, f u := by
  rw [Fin.sum_univ_eq_sum_range (fun k => if c < k then (if B + k < n then f (B + k) else 0) else 0) b]
  have h1 : ∀ k, (if c < k then (if B + k < n then f (B + k) else 0) else 0)
      = if (B + c + 1 ≤ B + k ∧ B + k < n) then f (B + k) else 0 := by
    intro k
    by_cases h : c < k <;> by_cases h' : B + k < n <;> simp [h, h'] <;> intros <;> omega
  rw [Finset.sum_congr rfl fun k _ => h1 k, ← Finset.sum_filter]
  refine Finset.sum_bij (fun k _ => B + k) ?_ ?_ ?_ ?_
  · intro k hk; simp only [mem_filter, mem_range, mem_Ico] at hk ⊢; omega
  · intro a _ a' _ h; omega
  · intro u hu
    simp only [mem_Ico] at hu
    exact ⟨u - B, by simp only [mem_filter, mem_range]; omega, by omega⟩
  · intro k _; rfl

/-- The cost from `m` on, its first key apart. -/
theorem tail_succ (z : ℕ → ℝ) (n m : ℕ) (h : m < n) : tail z n m = sp (z m) + tail z n (m + 1) := by
  unfold tail
  rw [Finset.sum_eq_sum_Ico_succ_bot h]

/-- The cost of a stretch of keys and of the rest. -/
theorem tail_add (z : ℕ → ℝ) (n m k : ℕ) (h : m ≤ k) (h' : k ≤ n) : tail z k m + tail z n k = tail z n m :=
  Finset.sum_Ico_consecutive _ h h'

/-- Nothing is left above the query's own position. -/
theorem tail_of_le (z : ℕ → ℝ) (n m : ℕ) (h : n ≤ m) : tail z n m = 0 := by
  unfold tail; rw [Finset.Ico_eq_empty_of_le h, Finset.sum_empty]

/-- A sum over a block of keys and over the keys above it. -/
theorem sum_block (f : ℕ → EReal) (B N b : ℕ) (h : B + b ≤ N) :
    (∑ k : Fin b, f (B + k.val)) + ∑ s ∈ Ico (B + b) N, f s = ∑ s ∈ Ico B N, f s := by
  rw [Fin.sum_univ_eq_sum_range (fun k => f (B + k)) b, ← Finset.sum_Ico_consecutive f (Nat.le_add_right B b) h]
  congr 1
  rw [Finset.sum_Ico_eq_sum_range, Nat.add_sub_cancel_left]

end Cert.Stick

end
-- ==== Proof.Pay.lean ====
module

public import proofs.«01_k».proof.Proof.Trip
public import proofs.«01_k».proof.Proof.Maths
public import Idealize.ShloMosaic.Lib.WordCmp

@[expose] public section

set_option maxRecDepth 65536

noncomputable section

/-! What each stored value of the kernel is at one index, over the extended reals. -/

namespace Cert.KernelIdeal.Pay

open Cert.KernelIdeal Cert.KernelIdeal.Gen Cert.KernelIdeal.Trip Idealize.ShloMosaic Idealize.ShloMosaic.TcCoe Cert.Stick

/-- The named constant minus log2 e. -/
theorem neg_log2e : Named.named (F := Ideal) κ "neg_log2e" (φ := .f32) 0xBFB8AA3B#32 = ((-((Real.log 2)⁻¹) : ℝ) : EReal) :=
  IdealRules.named_const.ideal_named_scalar _ _ _ _ rfl

/-- The named constant log2 e. -/
theorem log2e : Named.named (F := Ideal) κ "log2e" (φ := .f32) 0x3FB8AA3B#32 = (((Real.log 2)⁻¹ : ℝ) : EReal) :=
  IdealRules.named_const.ideal_named_scalar _ _ _ _ rfl

/-- A choice on the comparison of two small counts. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb]
  by_cases h : a < b <;> simp [h, Scalar.select]

theorem select_sgt {α : Type} (a b : ℕ) (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat (w := 32) ha hb]
  by_cases h : b < a <;> simp [h, Scalar.select]

/-- The strict lower triangle of ones. -/
theorem tri_apply (r l : Fin 256) : k0_pay77 (F := Ideal) (ix2 r l) = if l.val < r.val then 1 else 0 := by
  pointwise [k0_pay77]
  exact select_sgt _ _ (by omega) (by omega) _ _

/-- A choice by the causal mask of the diagonal block. -/
theorem caus_apply {α : Type} (r l : Fin 256) (x y : α) :
    Scalar.select (k0_pay78 (ix2 r l)) x y = if l.val < r.val then x else y := by
  have : k0_pay78 (ix2 r l) = IntOp.cmpi .slt (BitVec.ofNat 32 l.val) (BitVec.ofNat 32 r.val) := by pointwise [k0_pay78]
  rw [this]
  exact select_slt _ _ (by omega) (by omega) _ _

/-- The four lane masks. -/
def masks : Fin 4 → IVec S256x256 1 := ![k0_pay68, k0_pay69, k0_pay70, k0_pay71]

/-- A choice by the lane mask of one head. -/
theorem masks_apply {α : Type} (h : Fin 4) (r l : Fin 256) (x y : α) :
    Scalar.select (masks h (ix2 r l)) x y = if l.val / 64 = h.val then x else y := by
  have e0 : k0_pay68 (ix2 r l) = BitVec.ofBool (decide (l.val / 64 = 0)) := by
    pointwise [k0_pay68]; revert l; decide +kernel
  have e1 : k0_pay69 (ix2 r l) = BitVec.ofBool (decide (l.val / 64 = 1)) := by
    clear e0; pointwise [k0_pay69]; revert l; decide +kernel
  have e2 : k0_pay70 (ix2 r l) = BitVec.ofBool (decide (l.val / 64 = 2)) := by
    clear e0 e1; pointwise [k0_pay70]; revert l; decide +kernel
  have e3 : k0_pay71 (ix2 r l) = BitVec.ofBool (decide (l.val / 64 = 3)) := by
    clear e0 e1 e2; pointwise [k0_pay71]; revert l; decide +kernel
  have key : masks h (ix2 r l) = BitVec.ofBool (decide (l.val / 64 = h.val)) := by
    obtain rfl | rfl | rfl | rfl := (by decide : ∀ h : Fin 4, h = 0 ∨ h = 1 ∨ h = 2 ∨ h = 3) h
    · exact e0
    · exact e1
    · exact e2
    · exact e3
  rw [key]
  by_cases hh : l.val / 64 = h.val <;> simp [hh, Scalar.select]

/-- The queries with every lane outside one head's at zero. -/
def qh (x : Vec Ideal S1x256x256 .bf16) : Fin 4 → FVec Ideal S256x256 .bf16 := ![k0_pay73 x, k0_pay74 x, k0_pay75 x, k0_pay76 x]

theorem q_apply (x : Vec Ideal S1x256x256 .bf16) (h : Fin 4) (r l : Fin 256) :
    qh x h (ix2 r l) = if l.val / 64 = h.val then x (ix3 0 r l) else 0 := by
  have key : qh x h (ix2 r l) = Scalar.select (masks h (ix2 r l)) (x (ix3 0 r l)) 0 := by
    obtain rfl | rfl | rfl | rfl := (by decide : ∀ h : Fin 4, h = 0 ∨ h = 1 ∨ h = 2 ∨ h = 3) h
    · show k0_pay73 x (ix2 r l) = Scalar.select (k0_pay68 (ix2 r l)) (x (ix3 0 r l)) 0
      pointwise [k0_pay73, k0_pay72, k0_pay67]
    · show k0_pay74 x (ix2 r l) = Scalar.select (k0_pay69 (ix2 r l)) (x (ix3 0 r l)) 0
      pointwise [k0_pay74, k0_pay72, k0_pay67]
    · show k0_pay75 x (ix2 r l) = Scalar.select (k0_pay70 (ix2 r l)) (x (ix3 0 r l)) 0
      pointwise [k0_pay75, k0_pay72, k0_pay67]
    · show k0_pay76 x (ix2 r l) = Scalar.select (k0_pay71 (ix2 r l)) (x (ix3 0 r l)) 0
      pointwise [k0_pay76, k0_pay72, k0_pay67]
  rw [key, masks_apply]

/-- One head's scores: the sum over the lanes of query times key. -/
theorem z_apply (q : FVec Ideal S256x256 .bf16) (K : Vec Ideal S1x256x256 .bf16) (r l : Fin 256) :
    headZ (F := Ideal) q K (ix3 0 r l) = ∑ x, q (ix2 r x) * K (ix3 0 l x) := by
  pointwise [headZ, k0_pay31, k0_pay30]

/-- The softplus of a finite score. -/
theorem sp_apply (Z : Vec Ideal S1x256x256 .f32) (r l : Fin 256) (z : ℝ) (hz : Z (ix3 0 r l) = (z : EReal)) :
    k0_pay5 (F := Ideal) Z (ix2 r l) = ((sp z : ℝ) : EReal) := by
  pointwise [k0_pay5, k0_pay4]
  rw [hz, neg_log2e, absf_coe]
  exact spE z

/-- The softplus below the diagonal of the diagonal block, zero elsewhere. -/
theorem spd_apply (Z : FVec Ideal S256x256 .f32) (r l : Fin 256) (z : ℝ) (hz : Z (ix2 r l) = (z : EReal)) :
    k0_pay87 (F := Ideal) k0_pay78 Z (Scalar.ofBits .f32 0x00000000#32) (ix2 r l)
      = (((if l.val < r.val then sp z else 0) : ℝ) : EReal) := by
  pointwise [k0_pay87]
  rw [hz, neg_log2e, absf_coe, caus_apply]
  split
  · exact spE z
  · rfl

/-- A row of reals against one column of the triangle: the sum over what lies above the column's position. -/
theorem row_tri (s : Fin 256 → ℝ) (S : FVec Ideal S256x256 .f32) (r l : Fin 256) (hs : ∀ k, S (ix2 r k) = (s k : EReal)) :
    ∑ x, S (ix2 r x) * k0_pay77 (F := Ideal) (ix2 x l) = ((∑ k : Fin 256, (if l.val < k.val then s k else 0) : ℝ) : EReal) := by
  rw [← coe_sum]
  refine Finset.sum_congr rfl fun k _ => ?_
  rw [hs, tri_apply]
  split <;> simp

/-- The weights of a block below the diagonal, everything finite. -/
theorem w_apply (s : Fin 256 → ℝ) (Z S : FVec Ideal S256x256 .f32) (C : Vec Ideal S1x256x128 .f32) (r l : Fin 256)
    (z cr : ℝ) (hz : Z (ix2 r l) = (z : EReal)) (hs : ∀ k, S (ix2 r k) = (s k : EReal))
    (hC : ∀ k, C (ix3 0 r k) = (cr : EReal)) :
    k0_pay8 (F := Ideal) k0_pay77 Z S C (ix2 r l)
      = ((Real.exp (z - s l - (∑ k : Fin 256, (if l.val < k.val then s k else 0) + cr)) : ℝ) : EReal) := by
  pointwise [k0_pay8, k0_pay7, k0_pay6]
  rw [row_tri s S r l hs, hz, hs, log2e]
  split
  · rw [hC, ← EReal.coe_add, ← EReal.coe_sub, ← EReal.coe_sub]
    exact expE _
  · rw [hC, ← EReal.coe_add, ← EReal.coe_sub, ← EReal.coe_sub]
    exact expE _

/-- What a block below the diagonal carries on, everything finite. -/
theorem c_apply (s : Fin 256 → ℝ) (S : FVec Ideal S256x256 .f32) (C : Vec Ideal S1x256x128 .f32) (r : Fin 256) (l : Fin 128)
    (cr : ℝ) (hs : ∀ k, S (ix2 r k) = (s k : EReal)) (hC : ∀ k, C (ix3 0 r k) = (cr : EReal)) :
    k0_pay9 (F := Ideal) k0_pay77 S C (ix3 0 r l)
      = ((cr + (∑ k : Fin 256, (if 0 < k.val then s k else 0) + s 0) : ℝ) : EReal) := by
  pointwise [k0_pay9, k0_pay7, k0_pay6]
  rw [row_tri s S r 0 hs, hs, hC, ← EReal.coe_add, ← EReal.coe_add]
  rfl

/-- The diagonal block's weights are the same function of its masked softplus, masked once more. -/
theorem wd_eq (Z : FVec Ideal S256x256 .f32) (C : Vec Ideal S1x256x128 .f32) (r l : Fin 256) :
    k0_pay90 (F := Ideal) k0_pay77 k0_pay78 Z (Scalar.ofBits .f32 0x00000000#32) C (ix2 r l)
      = if l.val < r.val then
          k0_pay8 (F := Ideal) k0_pay77 Z (k0_pay87 (F := Ideal) k0_pay78 Z (Scalar.ofBits .f32 0x00000000#32)) C (ix2 r l)
        else 0 := by
  have : k0_pay90 (F := Ideal) k0_pay77 k0_pay78 Z (Scalar.ofBits .f32 0x00000000#32) C (ix2 r l)
      = Scalar.select (k0_pay78 (ix2 r l)) (k0_pay8 (F := Ideal) k0_pay77 Z
          (k0_pay87 (F := Ideal) k0_pay78 Z (Scalar.ofBits .f32 0x00000000#32)) C (ix2 r l)) 0 := by
    pointwise [k0_pay90, k0_pay88, k0_pay89, k0_pay8, k0_pay7, k0_pay6]
  rw [this, caus_apply]

/-- The diagonal block carries on the same function of its masked softplus. -/
theorem cd_eq (Z : FVec Ideal S256x256 .f32) (C : Vec Ideal S1x256x128 .f32) :
    k0_pay91 (F := Ideal) k0_pay77 k0_pay78 Z (Scalar.ofBits .f32 0x00000000#32) C
      = k0_pay9 (F := Ideal) k0_pay77 (k0_pay87 (F := Ideal) k0_pay78 Z (Scalar.ofBits .f32 0x00000000#32)) C := rfl

/-- The accumulator's step: a sum over heads and keys, each value counted at its own head's lanes. -/
theorem acc_apply (V : Vec Ideal S1x256x256 .bf16) (A : Vec Ideal S256x256 .f32) (W : Vec Ideal S256x1024 .bf16) (r l : Fin 256) :
    k0_pay3 (F := Ideal) k0_pay68 k0_pay69 k0_pay70 k0_pay71 V A W (ix2 r l)
      = A (ix2 r l) + ∑ x : Fin 1024, W (ix2 r x) *
          (if l.val / 64 = x.val / 256 then V (ix3 0 ⟨x.val % 256, Nat.mod_lt _ (by norm_num)⟩ l) else 0) := by
  have m0 := masks_apply (α := EReal) 0
  have m1 := masks_apply (α := EReal) 1
  have m2 := masks_apply (α := EReal) 2
  have m3 := masks_apply (α := EReal) 3
  simp only [show masks 0 = k0_pay68 from rfl] at m0
  simp only [show masks 1 = k0_pay69 from rfl] at m1
  simp only [show masks 2 = k0_pay70 from rfl] at m2
  simp only [show masks 3 = k0_pay71 from rfl] at m3
  pointwise [k0_pay3]
  refine congrArg (A (ix2 r l) + ·) (Finset.sum_congr rfl fun x _ => congrArg (W (ix2 r x) * ·) ?_)
  have hx := x.isLt
  split
  · rename_i h
    refine (m0 _ _ _ _).trans ?_
    have e : (⟨x.val % 256, Nat.mod_lt _ (by norm_num)⟩ : Fin 256) = ⟨x.val, h⟩ := Fin.ext (by show x.val % 256 = x.val; omega)
    rw [e, show x.val / 256 = (0 : Fin 4).val from by show _ = 0; omega]
  · rename_i h
    split
    · rename_i h1
      refine (m1 _ _ _ _).trans ?_
      have e : (⟨x.val % 256, Nat.mod_lt _ (by norm_num)⟩ : Fin 256) = ⟨x.val - 256, h1⟩ := Fin.ext (by show x.val % 256 = x.val - 256; omega)
      rw [e, show x.val / 256 = (1 : Fin 4).val from by show _ = 1; omega]
    · rename_i h1
      split
      · rename_i h2
        refine (m2 _ _ _ _).trans ?_
        have e : (⟨x.val % 256, Nat.mod_lt _ (by norm_num)⟩ : Fin 256) = ⟨x.val - 256 - 256, h2⟩ :=
          Fin.ext (by show x.val % 256 = x.val - 256 - 256; omega)
        rw [e, show x.val / 256 = (2 : Fin 4).val from by show _ = 2; omega]
      · rename_i h2
        refine (m3 _ _ _ _).trans ?_
        have e : (⟨x.val % 256, Nat.mod_lt _ (by norm_num)⟩ : Fin 256) = ⟨x.val - 256 - 256 - 256, by omega⟩ :=
          Fin.ext (by show x.val % 256 = x.val - 256 - 256 - 256; omega)
        rw [e, show x.val / 256 = (3 : Fin 4).val from by show _ = 3; omega]

/-- A sum over the four heads' columns of which only one head's count is that head's sum. -/
theorem sum_head (f : Fin 1024 → EReal) (g : Fin 256 → EReal) (h : Fin 4)
    (hf : ∀ (x : Fin 1024) (k : Fin 256), x.val = 256 * h.val + k.val → f x = g k)
    (h0 : ∀ x : Fin 1024, x.val / 256 ≠ h.val → f x = 0) : ∑ x, f x = ∑ k, g k := by
  have hlt : ∀ k : Fin 256, 256 * h.val + k.val < 1024 := fun k => by have := h.isLt; have := k.isLt; omega
  have h1 : ∑ k : Fin 256, g k = ∑ k : Fin 256, f ⟨256 * h.val + k.val, hlt k⟩ :=
    Finset.sum_congr rfl fun k _ => (hf ⟨256 * h.val + k.val, hlt k⟩ k rfl).symm
  rw [h1]
  symm
  have inj : Function.Injective fun k : Fin 256 => (⟨256 * h.val + k.val, hlt k⟩ : Fin 1024) := by
    intro a b hab
    have := congrArg Fin.val hab
    exact Fin.ext (by simp only at this; omega)
  refine (Finset.sum_map Finset.univ ⟨_, inj⟩ f).symm.trans ?_
  refine Finset.sum_subset (Finset.subset_univ _) fun x _ hx => h0 x fun hxh => hx ?_
  rw [Finset.mem_map]
  exact ⟨⟨x.val % 256, Nat.mod_lt _ (by norm_num)⟩, Finset.mem_univ _, Fin.ext (by show 256 * h.val + x.val % 256 = x.val; omega)⟩

end Cert.KernelIdeal.Pay

end
-- ==== Proof.Start.lean ====
/- What the kernel's scratch arrays hold when its loop over the earlier blocks starts: the running sum at zero, the diagonal
   block's carries and weights, and the scores of the block before it. -/
module

public import proofs.«01_k».proof.Proof.Trip

@[expose] public section

set_option maxRecDepth 65536

noncomputable section

namespace Cert.KernelIdeal.Start

open Cert.KernelIdeal Cert.KernelIdeal.Gen Cert.KernelIdeal.Trip Idealize.ShloMosaic Idealize.ShloMosaic.TcCoe Idealize.SL.Sem

variable {F : FTy → Type} [FloatOps F] [Named F]

/-- The queries masked to each head's lanes. -/
def qs (x : Vec F S1x256x256 .bf16) : Fin 4 → FVec F S256x256 .bf16 := ![k0_pay73 x, k0_pay74 x, k0_pay75 x, k0_pay76 x]

/-- The block of 256 keys (or values) starting where the program's offset says. -/
abbrev blkAt (x : Vec F S1x8192x256 .bf16) (o : Fin 3 → ℕ) (ho : ∀ a, o a + S1x256x256.size a ≤ S1x8192x256.size a) : Vec F S1x256x256 .bf16 :=
  View.ld x (Rect.unit (s := S1x8192x256) o S1x256x256.size ho)

variable (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg7 : Memref sig .tc .vmem S256x256 .f32) (arg8 : Memref sig .tc .vmem S4x256x128 .f32) (arg9 : Memref sig .tc .vmem S4x256x256 .f32) (arg10 : Memref sig .tc .vmem S256x1024 .bf16)
  (x0 : Vec F S1x256x256 .bf16) (x1 x2 : Vec F S1x8192x256 .bf16)

theorem load_q : View.readAt (Elt F) arg3.view (Rect.unit (s := S1x256x256) ![0, 0, 0] S1x256x256.size inb_S1x256x256_S1x256x256_0_0_0).toLoadRect
    (harg3.unread x0) = x0 := by
  have hz : (![0, 0, 0] : Fin 3 → ℕ) = fun _ => 0 := by funext a; fin_cases a <;> rfl
  rw [View.readAt_eq_ld, View.ld_unit_zero (S := S1x256x256) hz, Memref.IsWhole.read_unread]

theorem load_k (o : Fin 3 → ℕ) (ho : ∀ a, o a + S1x256x256.size a ≤ S1x8192x256.size a) :
    View.readAt (Elt F) arg4.view (Rect.unit (s := S1x8192x256) o S1x256x256.size ho).toLoadRect (harg4.unread x1) = blkAt x1 o ho := by
  rw [View.readAt_eq_ld, Memref.IsWhole.read_unread]

/-- The scores of the diagonal block, head by head. -/
theorem diag_z (h : Fin 4) (r l : Fin 256) :
    arg9.view.read (Elt F) (arg9.view.writes (Elt F) arg9.view.junk (kernelRun0_A.sl.HS2_4 c i arg3 harg3 arg4 harg4 x0 x1)) (ix3 h r l)
      = headZ (qs x0 h) (blkAt x1 (k0_off1 i) (k0_off1_inb i)) (ix3 0 r l) := by
  unfold kernelRun0_A.sl.HS2_4 kernelRun0_A.sl.r kernelRun0_A.sl.r_1 kernelRun0_A.sl.r_2 kernelRun0_A.sl.r_3
  obtain rfl | rfl | rfl | rfl := (by decide : ∀ h : Fin 4, h = 0 ∨ h = 1 ∨ h = 2 ∨ h = 3) h
  · rw [View.read_writes_cons_unit_of_not_mem _ _ _ _ _ _ rfl 0 (Or.inl (by show (0 : ℕ) < 3; decide)),
      View.read_writes_cons_unit_of_not_mem _ _ _ _ _ _ rfl 0 (Or.inl (by show (0 : ℕ) < 2; decide)),
      View.read_writes_cons_unit_of_not_mem _ _ _ _ _ _ rfl 0 (Or.inl (by show (0 : ℕ) < 1; decide)),
      View.read_writes_cons_unit_of_mem _ _ _ _ _ _ (ix3 0 r l) rfl (in_page _ r l)]
    refine Eq.trans ?_ (congrArg₂ (fun x K => headZ (qs x 0) K (ix3 0 r l)) (load_q arg3 harg3 x0) (load_k arg4 harg4 x1 _ (k0_off1_inb i)))
    rfl
  · rw [View.read_writes_cons_unit_of_not_mem _ _ _ _ _ _ rfl 0 (Or.inl (by show (1 : ℕ) < 3; decide)),
      View.read_writes_cons_unit_of_not_mem _ _ _ _ _ _ rfl 0 (Or.inl (by show (1 : ℕ) < 2; decide)),
      View.read_writes_cons_unit_of_mem _ _ _ _ _ _ (ix3 0 r l) rfl (in_page _ r l)]
    refine Eq.trans ?_ (congrArg₂ (fun x K => headZ (qs x 1) K (ix3 0 r l)) (load_q arg3 harg3 x0) (load_k arg4 harg4 x1 _ (k0_off1_inb i)))
    rfl
  · rw [View.read_writes_cons_unit_of_not_mem _ _ _ _ _ _ rfl 0 (Or.inl (by show (2 : ℕ) < 3; decide)),
      View.read_writes_cons_unit_of_mem _ _ _ _ _ _ (ix3 0 r l) rfl (in_page _ r l)]
    refine Eq.trans ?_ (congrArg₂ (fun x K => headZ (qs x 2) K (ix3 0 r l)) (load_q arg3 harg3 x0) (load_k arg4 harg4 x1 _ (k0_off1_inb i)))
    rfl
  · rw [View.read_writes_cons_unit_of_mem _ _ _ _ _ _ (ix3 0 r l) rfl (in_page _ r l)]
    refine Eq.trans ?_ (congrArg₂ (fun x K => headZ (qs x 3) K (ix3 0 r l)) (load_q arg3 harg3 x0) (load_k arg4 harg4 x1 _ (k0_off1_inb i)))
    rfl

/-- The scores of the block before the diagonal one, head by head. -/
theorem start9 (h : Fin 4) (r l : Fin 256) :
    arg9.view.read (Elt F) (arg9.view.writes (Elt F) arg9.view.junk (kernelRun0_A.sl.HS2_8 c i arg3 harg3 arg4 harg4 x0 x1)) (ix3 h r l)
      = headZ (qs x0 h) (blkAt x1 (k0_off2 i) (k0_off2_inb i)) (ix3 0 r l) := by
  unfold kernelRun0_A.sl.HS2_8 kernelRun0_A.sl.r kernelRun0_A.sl.r_1 kernelRun0_A.sl.r_2 kernelRun0_A.sl.r_3
  obtain rfl | rfl | rfl | rfl := (by decide : ∀ h : Fin 4, h = 0 ∨ h = 1 ∨ h = 2 ∨ h = 3) h
  · rw [View.read_writes_cons_unit_of_not_mem _ _ _ _ _ _ rfl 0 (Or.inl (by show (0 : ℕ) < 3; decide)),
      View.read_writes_cons_unit_of_not_mem _ _ _ _ _ _ rfl 0 (Or.inl (by show (0 : ℕ) < 2; decide)),
      View.read_writes_cons_unit_of_not_mem _ _ _ _ _ _ rfl 0 (Or.inl (by show (0 : ℕ) < 1; decide)),
      View.read_writes_cons_unit_of_mem _ _ _ _ _ _ (ix3 0 r l) rfl (in_page _ r l)]
    refine Eq.trans ?_ (congrArg₂ (fun x K => headZ (qs x 0) K (ix3 0 r l)) (load_q arg3 harg3 x0) (load_k arg4 harg4 x1 _ (k0_off2_inb i)))
    rfl
  · rw [View.read_writes_cons_unit_of_not_mem _ _ _ _ _ _ rfl 0 (Or.inl (by show (1 : ℕ) < 3; decide)),
      View.read_writes_cons_unit_of_not_mem _ _ _ _ _ _ rfl 0 (Or.inl (by show (1 : ℕ) < 2; decide)),
      View.read_writes_cons_unit_of_mem _ _ _ _ _ _ (ix3 0 r l) rfl (in_page _ r l)]
    refine Eq.trans ?_ (congrArg₂ (fun x K => headZ (qs x 1) K (ix3 0 r l)) (load_q arg3 harg3 x0) (load_k arg4 harg4 x1 _ (k0_off2_inb i)))
    rfl
  · rw [View.read_writes_cons_unit_of_not_mem _ _ _ _ _ _ rfl 0 (Or.inl (by show (2 : ℕ) < 3; decide)),
      View.read_writes_cons_unit_of_mem _ _ _ _ _ _ (ix3 0 r l) rfl (in_page _ r l)]
    refine Eq.trans ?_ (congrArg₂ (fun x K => headZ (qs x 2) K (ix3 0 r l)) (load_q arg3 harg3 x0) (load_k arg4 harg4 x1 _ (k0_off2_inb i)))
    rfl
  · rw [View.read_writes_cons_unit_of_mem _ _ _ _ _ _ (ix3 0 r l) rfl (in_page _ r l)]
    refine Eq.trans ?_ (congrArg₂ (fun x K => headZ (qs x 3) K (ix3 0 r l)) (load_q arg3 harg3 x0) (load_k arg4 harg4 x1 _ (k0_off2_inb i)))
    rfl

/-- The accumulator at the start. -/
theorem start7 : arg7.view.read (Elt F) (arg7.view.writes (Elt F) arg7.view.junk kernelRun0_A.sl.HS0_1) = k0_pay79 (F := F) := by
  unfold kernelRun0_A.sl.HS0_1
  funext y
  refine (View.read_writes_cons_unit_of_mem _ _ _ _ _ _ y rfl ?_).trans ?_
  · intro a; fin_cases a <;> exact (Nat.zero_add _).symm
  rfl

theorem zero8 (y : S4x256x128.Idx) : arg8.view.read (Elt F) (arg8.view.writes (Elt F) arg8.view.junk kernelRun0_A.sl.HS1_1) y = k0_pay80 (F := F) y := by
  unfold kernelRun0_A.sl.HS1_1
  refine (View.read_writes_cons_unit_of_mem _ _ _ _ _ _ y rfl ?_).trans ?_
  · intro a; fin_cases a <;> exact (Nat.zero_add _).symm
  rfl

theorem car0 : kernelRun0_A.sl.v81 c arg8 = page (k0_pay80 (F := F)) 0 := by
  unfold kernelRun0_A.sl.v81
  refine (ld_page (arg8.view.read (Elt F) (arg8.view.writes (Elt F) arg8.view.junk (kernelRun0_A.sl.HS1_1))) 0 ![0, 0, 0] rfl inb_S4x256x128_S1x256x128_0_0_0).trans ?_
  funext y
  show arg8.view.read (Elt F) (arg8.view.writes (Elt F) arg8.view.junk (kernelRun0_A.sl.HS1_1)) (ix3 0 (y 1) (y 2)) = k0_pay80 (F := F) (ix3 0 (y 1) (y 2))
  exact zero8 _ _

theorem sc0 : kernelRun0_A.sl.r_4 c i arg3 harg3 arg4 harg4 arg9 x0 x1
    = k0_pay86 (page (arg9.view.read (Elt F) (arg9.view.writes (Elt F) arg9.view.junk (kernelRun0_A.sl.HS2_4 c i arg3 harg3 arg4 harg4 x0 x1))) 0) := by
  unfold kernelRun0_A.sl.r_4 kernelRun0_A.sl.v65
  have h9 := ld_page (arg9.view.read (Elt F) (arg9.view.writes (Elt F) arg9.view.junk (kernelRun0_A.sl.HS2_4 c i arg3 harg3 arg4 harg4 x0 x1))) 0 ![0, 0, 0] rfl inb_S4x256x256_S1x256x256_0_0_0
  exact congrArg k0_pay86 h9

theorem car1 : kernelRun0_A.sl.v121 c i arg3 harg3 arg4 harg4 arg8 arg9 x0 x1 = page (k0_pay80 (F := F)) 1 := by
  unfold kernelRun0_A.sl.v121
  refine (ld_page (arg8.view.read (Elt F) (arg8.view.writes (Elt F) arg8.view.junk (kernelRun0_A.sl.HS1_2 c i arg3 harg3 arg4 harg4 arg8 arg9 x0 x1))) 1 ![1, 0, 0] rfl inb_S4x256x128_S1x256x128_1_0_0).trans ?_
  funext y
  show arg8.view.read (Elt F) (arg8.view.writes (Elt F) arg8.view.junk (kernelRun0_A.sl.HS1_2 c i arg3 harg3 arg4 harg4 arg8 arg9 x0 x1)) (ix3 1 (y 1) (y 2)) = k0_pay80 (F := F) (ix3 1 (y 1) (y 2))
  unfold kernelRun0_A.sl.HS1_2
  rw [View.read_writes_cons_unit_of_not_mem _ _ _ _ _ _ rfl 0 (Or.inr (by show (0 : ℕ) + 1 ≤ 1; decide))]
  exact zero8 _ _

theorem sc1 : kernelRun0_A.sl.r_5 c i arg3 harg3 arg4 harg4 arg9 x0 x1
    = k0_pay86 (page (arg9.view.read (Elt F) (arg9.view.writes (Elt F) arg9.view.junk (kernelRun0_A.sl.HS2_4 c i arg3 harg3 arg4 harg4 x0 x1))) 1) := by
  unfold kernelRun0_A.sl.r_5 kernelRun0_A.sl.v105
  have h9 := ld_page (arg9.view.read (Elt F) (arg9.view.writes (Elt F) arg9.view.junk (kernelRun0_A.sl.HS2_4 c i arg3 harg3 arg4 harg4 x0 x1))) 1 ![1, 0, 0] rfl inb_S4x256x256_S1x256x256_1_0_0
  exact congrArg k0_pay86 h9

theorem car2 : kernelRun0_A.sl.v161 c i arg3 harg3 arg4 harg4 arg8 arg9 x0 x1 = page (k0_pay80 (F := F)) 2 := by
  unfold kernelRun0_A.sl.v161
  refine (ld_page (arg8.view.read (Elt F) (arg8.view.writes (Elt F) arg8.view.junk (kernelRun0_A.sl.HS1_3 c i arg3 harg3 arg4 harg4 arg8 arg9 x0 x1))) 2 ![2, 0, 0] rfl inb_S4x256x128_S1x256x128_2_0_0).trans ?_
  funext y
  show arg8.view.read (Elt F) (arg8.view.writes (Elt F) arg8.view.junk (kernelRun0_A.sl.HS1_3 c i arg3 harg3 arg4 harg4 arg8 arg9 x0 x1)) (ix3 2 (y 1) (y 2)) = k0_pay80 (F := F) (ix3 2 (y 1) (y 2))
  unfold kernelRun0_A.sl.HS1_3
  rw [View.read_writes_cons_unit_of_not_mem _ _ _ _ _ _ rfl 0 (Or.inr (by show (1 : ℕ) + 1 ≤ 2; decide))]
  unfold kernelRun0_A.sl.HS1_2
  rw [View.read_writes_cons_unit_of_not_mem _ _ _ _ _ _ rfl 0 (Or.inr (by show (0 : ℕ) + 1 ≤ 2; decide))]
  exact zero8 _ _

theorem sc2 : kernelRun0_A.sl.r_6 c i arg3 harg3 arg4 harg4 arg9 x0 x1
    = k0_pay86 (page (arg9.view.read (Elt F) (arg9.view.writes (Elt F) arg9.view.junk (kernelRun0_A.sl.HS2_4 c i arg3 harg3 arg4 harg4 x0 x1))) 2) := by
  unfold kernelRun0_A.sl.r_6 kernelRun0_A.sl.v145
  have h9 := ld_page (arg9.view.read (Elt F) (arg9.view.writes (Elt F) arg9.view.junk (kernelRun0_A.sl.HS2_4 c i arg3 harg3 arg4 harg4 x0 x1))) 2 ![2, 0, 0] rfl inb_S4x256x256_S1x256x256_2_0_0
  exact congrArg k0_pay86 h9

theorem car3 : kernelRun0_A.sl.v201 c i arg3 harg3 arg4 harg4 arg8 arg9 x0 x1 = page (k0_pay80 (F := F)) 3 := by
  unfold kernelRun0_A.sl.v201
  refine (ld_page (arg8.view.read (Elt F) (arg8.view.writes (Elt F) arg8.view.junk (kernelRun0_A.sl.HS1_4 c i arg3 harg3 arg4 harg4 arg8 arg9 x0 x1))) 3 ![3, 0, 0] rfl inb_S4x256x128_S1x256x128_3_0_0).trans ?_
  funext y
  show arg8.view.read (Elt F) (arg8.view.writes (Elt F) arg8.view.junk (kernelRun0_A.sl.HS1_4 c i arg3 harg3 arg4 harg4 arg8 arg9 x0 x1)) (ix3 3 (y 1) (y 2)) = k0_pay80 (F := F) (ix3 3 (y 1) (y 2))
  unfold kernelRun0_A.sl.HS1_4
  rw [View.read_writes_cons_unit_of_not_mem _ _ _ _ _ _ rfl 0 (Or.inr (by show (2 : ℕ) + 1 ≤ 3; decide))]
  unfold kernelRun0_A.sl.HS1_3
  rw [View.read_writes_cons_unit_of_not_mem _ _ _ _ _ _ rfl 0 (Or.inr (by show (1 : ℕ) + 1 ≤ 3; decide))]
  unfold kernelRun0_A.sl.HS1_2
  rw [View.read_writes_cons_unit_of_not_mem _ _ _ _ _ _ rfl 0 (Or.inr (by show (0 : ℕ) + 1 ≤ 3; decide))]
  exact zero8 _ _

theorem sc3 : kernelRun0_A.sl.r_7 c i arg3 harg3 arg4 harg4 arg9 x0 x1
    = k0_pay86 (page (arg9.view.read (Elt F) (arg9.view.writes (Elt F) arg9.view.junk (kernelRun0_A.sl.HS2_4 c i arg3 harg3 arg4 harg4 x0 x1))) 3) := by
  unfold kernelRun0_A.sl.r_7 kernelRun0_A.sl.v185
  have h9 := ld_page (arg9.view.read (Elt F) (arg9.view.writes (Elt F) arg9.view.junk (kernelRun0_A.sl.HS2_4 c i arg3 harg3 arg4 harg4 x0 x1))) 3 ![3, 0, 0] rfl inb_S4x256x256_S1x256x256_3_0_0
  exact congrArg k0_pay86 h9

/-- The carries at the start: what the diagonal block carries on. -/
theorem start8 (h : Fin 4) (r : Fin 256) (l : Fin 128) :
    arg8.view.read (Elt F) (arg8.view.writes (Elt F) arg8.view.junk (kernelRun0_A.sl.HS1_5 c i arg3 harg3 arg4 harg4 arg8 arg9 x0 x1)) (ix3 h r l)
      = k0_pay91 k0_pay77 k0_pay78 (k0_pay86 (page (arg9.view.read (Elt F) (arg9.view.writes (Elt F) arg9.view.junk (kernelRun0_A.sl.HS2_4 c i arg3 harg3 arg4 harg4 x0 x1))) h)) (Scalar.ofBits .f32 0x00000000#32) (page (k0_pay80 (F := F)) h) (ix3 0 r l) := by
  obtain rfl | rfl | rfl | rfl := (by decide : ∀ h : Fin 4, h = 0 ∨ h = 1 ∨ h = 2 ∨ h = 3) h
  · unfold kernelRun0_A.sl.HS1_5
    rw [View.read_writes_cons_unit_of_not_mem _ _ _ _ _ _ rfl 0 (Or.inl (by show (0 : ℕ) < 3; decide))]
    unfold kernelRun0_A.sl.HS1_4
    rw [View.read_writes_cons_unit_of_not_mem _ _ _ _ _ _ rfl 0 (Or.inl (by show (0 : ℕ) < 2; decide))]
    unfold kernelRun0_A.sl.HS1_3
    rw [View.read_writes_cons_unit_of_not_mem _ _ _ _ _ _ rfl 0 (Or.inl (by show (0 : ℕ) < 1; decide))]
    unfold kernelRun0_A.sl.HS1_2
    rw [View.read_writes_cons_unit_of_mem _ _ _ _ _ _ (ix3 0 r l) rfl (in_page _ r l), car0, sc0]
    rfl
  · unfold kernelRun0_A.sl.HS1_5
    rw [View.read_writes_cons_unit_of_not_mem _ _ _ _ _ _ rfl 0 (Or.inl (by show (1 : ℕ) < 3; decide))]
    unfold kernelRun0_A.sl.HS1_4
    rw [View.read_writes_cons_unit_of_not_mem _ _ _ _ _ _ rfl 0 (Or.inl (by show (1 : ℕ) < 2; decide))]
    unfold kernelRun0_A.sl.HS1_3
    rw [View.read_writes_cons_unit_of_mem _ _ _ _ _ _ (ix3 0 r l) rfl (in_page _ r l), car1, sc1]
    rfl
  · unfold kernelRun0_A.sl.HS1_5
    rw [View.read_writes_cons_unit_of_not_mem _ _ _ _ _ _ rfl 0 (Or.inl (by show (2 : ℕ) < 3; decide))]
    unfold kernelRun0_A.sl.HS1_4
    rw [View.read_writes_cons_unit_of_mem _ _ _ _ _ _ (ix3 0 r l) rfl (in_page _ r l), car2, sc2]
    rfl
  · unfold kernelRun0_A.sl.HS1_5
    rw [View.read_writes_cons_unit_of_mem _ _ _ _ _ _ (ix3 0 r l) rfl (in_page _ r l), car3, sc3]
    rfl

/-- The weights at the start: the diagonal block's. -/
theorem start10 (h : Fin 4) (r l : Fin 256) (j : Fin 1024) (hj : j.val = 256 * h.val + l.val) :
    arg10.view.read (Elt F) (arg10.view.writes (Elt F) arg10.view.junk (kernelRun0_A.sl.HS3_4 c i arg3 harg3 arg4 harg4 arg8 arg9 x0 x1)) (ix2 r j)
      = k0_pay90 k0_pay77 k0_pay78 (k0_pay86 (page (arg9.view.read (Elt F) (arg9.view.writes (Elt F) arg9.view.junk (kernelRun0_A.sl.HS2_4 c i arg3 harg3 arg4 harg4 x0 x1))) h)) (Scalar.ofBits .f32 0x00000000#32) (page (k0_pay80 (F := F)) h) (ix2 r l) := by
  unfold kernelRun0_A.sl.HS3_4
  obtain rfl | rfl | rfl | rfl := (by decide : ∀ h : Fin 4, h = 0 ∨ h = 1 ∨ h = 2 ∨ h = 3) h
  · rw [View.read_writes_cons_unit_of_not_mem _ _ _ _ _ _ rfl 1 (Or.inl (by show j.val < 768; have := l.isLt; have : j.val = 256 * 0 + l.val := hj; omega)),
      View.read_writes_cons_unit_of_not_mem _ _ _ _ _ _ rfl 1 (Or.inl (by show j.val < 512; have := l.isLt; have : j.val = 256 * 0 + l.val := hj; omega)),
      View.read_writes_cons_unit_of_not_mem _ _ _ _ _ _ rfl 1 (Or.inl (by show j.val < 256; have := l.isLt; have : j.val = 256 * 0 + l.val := hj; omega))]
    refine (View.read_writes_cons_unit_of_mem _ _ _ _ _ _ (ix2 r l) rfl ?_).trans ?_
    · exact in_cols r j l _ hj
    rw [car0, sc0]
    rfl
  · rw [View.read_writes_cons_unit_of_not_mem _ _ _ _ _ _ rfl 1 (Or.inl (by show j.val < 768; have := l.isLt; have : j.val = 256 * 1 + l.val := hj; omega)),
      View.read_writes_cons_unit_of_not_mem _ _ _ _ _ _ rfl 1 (Or.inl (by show j.val < 512; have := l.isLt; have : j.val = 256 * 1 + l.val := hj; omega))]
    refine (View.read_writes_cons_unit_of_mem _ _ _ _ _ _ (ix2 r l) rfl ?_).trans ?_
    · exact in_cols r j l _ hj
    rw [car1, sc1]
    rfl
  · rw [View.read_writes_cons_unit_of_not_mem _ _ _ _ _ _ rfl 1 (Or.inl (by show j.val < 768; have := l.isLt; have : j.val = 256 * 2 + l.val := hj; omega))]
    refine (View.read_writes_cons_unit_of_mem _ _ _ _ _ _ (ix2 r l) rfl ?_).trans ?_
    · exact in_cols r j l _ hj
    rw [car2, sc2]
    rfl
  · refine (View.read_writes_cons_unit_of_mem _ _ _ _ _ _ (ix2 r l) rfl ?_).trans ?_
    · exact in_cols r j l _ hj
    rw [car3, sc3]
    rfl

end Cert.KernelIdeal.Start

end
-- ==== Proof.Step.lean ====
/- One pass of the kernel's loop, as mathematics: what the four scratch arrays hold before a pass and after it, given the
   finite scores. -/
module

public import proofs.«01_k».proof.Proof.Pay
public import proofs.«01_k».proof.Proof.Start

@[expose] public section

set_option maxRecDepth 65536

noncomputable section

namespace Cert.KernelIdeal.Step

open Cert.KernelIdeal Cert.KernelIdeal.Gen Cert.KernelIdeal.Trip Cert.KernelIdeal.Start Cert.KernelIdeal.Pay Idealize.ShloMosaic Idealize.ShloMosaic.TcCoe
open Cert.Stick Finset

/-- The head a lane belongs to. -/
def hd (l : Fin 256) : Fin 4 := ⟨l.val / 64, by omega⟩

/-- The value a key position has at a lane. -/
def vv (x2 : Vec Ideal S1x8192x256 .bf16) (s : ℕ) (l : Fin 256) : EReal := if h : s < 8192 then x2 (ix3 0 ⟨s, h⟩ l) else 0

theorem vv_lt (x2 : Vec Ideal S1x8192x256 .bf16) (s : ℕ) (hs : s < 8192) (l : Fin 256) : vv x2 s l = x2 (ix3 0 ⟨s, hs⟩ l) := dif_pos hs

/-- A block of keys or values, at one index. -/
theorem blkAt_apply (x : Vec Ideal S1x8192x256 .bf16) (o : Fin 3 → ℕ) (ho : ∀ a, o a + S1x256x256.size a ≤ S1x8192x256.size a)
    (B : ℕ) (e : o = ![0, B, 0]) (k l : Fin 256) (hk : B + k.val < 8192) :
    blkAt x o ho (ix3 0 k l) = x (ix3 0 ⟨B + k.val, hk⟩ l) := by
  subst e
  refine congrArg x (funext fun a => Fin.ext ?_)
  match a with
  | ⟨0, _⟩ => rfl
  | ⟨1, _⟩ => show B + 1 * k.val = B + k.val; omega
  | ⟨2, _⟩ => show 0 + 1 * l.val = l.val; omega

variable (x1 x2 : Vec Ideal S1x8192x256 .bf16) (q : Fin 4 → FVec Ideal S256x256 .bf16) (J : ℕ) (hJ : J < 32)
  (zr : Fin 4 → Fin 256 → ℕ → ℝ)

/-- Every score of the block's queries is the real `zr` names. -/
def Scores : Prop := ∀ h r (s : Fin 8192), ∑ x, q h (ix2 r x) * x1 (ix3 0 s x) = ((zr h r s.val : ℝ) : EReal)

/-- What the scratch arrays hold before pass `t`: the sum over the keys of the blocks done, what the keys above the block at
    hand cost, the scores of the block to come, the weights of the block at hand. -/
structure Holds (t : ℕ) (A : Vec Ideal S256x256 .f32) (C : Vec Ideal S4x256x128 .f32) (Z : Vec Ideal S4x256x256 .f32)
    (W : Vec Ideal S256x1024 .bf16) : Prop where
  acc : ∀ (r l : Fin 256), A (ix2 r l) = ∑ s ∈ Ico (256 * (J - t) + 256) (256 * J + 256),
    ((wt (zr (hd l) r) (256 * J + r.val) s : ℝ) : EReal) * vv x2 s l
  car : ∀ (h : Fin 4) (r : Fin 256) (l : Fin 128), C (ix3 h r l) = ((tail (zr h r) (256 * J + r.val) (256 * (J - t)) : ℝ) : EReal)
  sc : t < J → ∀ (h : Fin 4) (r l : Fin 256), Z (ix3 h r l) = ((zr h r (256 * (J - (t + 1)) + l.val) : ℝ) : EReal)
  wts : ∀ (h : Fin 4) (r l : Fin 256) (j : Fin 1024), j.val = 256 * h.val + l.val →
    W (ix2 r j) = ((wt (zr h r) (256 * J + r.val) (256 * (J - t) + l.val) : ℝ) : EReal)

/-- The softplus of a block's scores above a position, block fully below the diagonal. -/
theorem above_full (z : ℕ → ℝ) (B : ℕ) (c : ℕ) :
    ∑ k : Fin 256, (if c < k.val then sp (z (B + k.val)) else 0) = tail z (B + 256) (B + c + 1) := by
  unfold tail
  rw [← sum_above (fun u => sp (z u)) B (B + 256) c 256 rfl le_rfl]
  refine Finset.sum_congr rfl fun k _ => ?_
  rw [if_pos (show B + k.val < B + 256 by have := k.isLt; omega)]

variable {x1 x2 q J zr}

include hJ in
/-- The accumulator after a pass (or after the last product). -/
theorem acc_step (t : ℕ) (ht : t ≤ J) {A : Vec Ideal S256x256 .f32} {C : Vec Ideal S4x256x128 .f32} {Z : Vec Ideal S4x256x256 .f32}
    {W : Vec Ideal S256x1024 .bf16} (H : Holds x2 J zr t A C Z W) (o : Fin 3 → ℕ)
    (ho : ∀ a, o a + S1x256x256.size a ≤ S1x8192x256.size a) (e : o = ![0, 256 * (J - t), 0]) (r l : Fin 256) :
    k0_pay3 (F := Ideal) k0_pay68 k0_pay69 k0_pay70 k0_pay71 (blkAt x2 o ho) A W (ix2 r l)
      = ∑ s ∈ Ico (256 * (J - t)) (256 * J + 256), ((wt (zr (hd l) r) (256 * J + r.val) s : ℝ) : EReal) * vv x2 s l := by
  rw [acc_apply, H.acc]
  rw [sum_head _ (fun k : Fin 256 => ((wt (zr (hd l) r) (256 * J + r.val) (256 * (J - t) + k.val) : ℝ) : EReal) * vv x2 (256 * (J - t) + k.val) l) (hd l)]
  · rw [add_comm]
    exact sum_block (fun s => ((wt (zr (hd l) r) (256 * J + r.val) s : ℝ) : EReal) * vv x2 s l) (256 * (J - t)) (256 * J + 256) 256 (by omega)
  · intro x k hx
    have hk := k.isLt
    have hl := l.isLt
    have hh : (hd l).val = l.val / 64 := rfl
    rw [H.wts (hd l) r k x hx, if_pos (by omega)]
    have hb : 256 * (J - t) + k.val < 8192 := by omega
    have ek : (⟨x.val % 256, Nat.mod_lt _ (by norm_num)⟩ : Fin 256) = k := Fin.ext (by show x.val % 256 = k.val; omega)
    rw [ek, blkAt_apply x2 o ho _ e k l hb, vv_lt x2 _ hb]
  · intro x hx
    have hh : (hd l).val = l.val / 64 := rfl
    rw [if_neg (by omega), mul_zero]

include hJ in
/-- One pass. -/
theorem step (hq : Scores x1 q zr) (t : ℕ) (ht : t < J) {A A' : Vec Ideal S256x256 .f32} {C C' : Vec Ideal S4x256x128 .f32}
    {Z Z' : Vec Ideal S4x256x256 .f32} {W W' : Vec Ideal S256x1024 .bf16} (H : Holds x2 J zr t A C Z W)
    (o3 : Fin 3 → ℕ) (ho3 : ∀ a, o3 a + S1x256x256.size a ≤ S1x8192x256.size a) (e3 : o3 = ![0, 256 * (J - t), 0])
    (o4 : Fin 3 → ℕ) (ho4 : ∀ a, o4 a + S1x256x256.size a ≤ S1x8192x256.size a) (e4 : o4 = ![0, 256 * (J - (t + 2)), 0])
    (hA : A' = k0_pay3 (F := Ideal) k0_pay68 k0_pay69 k0_pay70 k0_pay71 (blkAt x2 o3 ho3) A W)
    (hC : ∀ (h : Fin 4) (r : Fin 256) (l : Fin 128), C' (ix3 h r l) = headC (F := Ideal) k0_pay77 (page Z h) (page C h) (ix3 0 r l))
    (hZ : ∀ (h : Fin 4) (r l : Fin 256), Z' (ix3 h r l) = headZ (F := Ideal) (q h) (blkAt x1 o4 ho4) (ix3 0 r l))
    (hW : ∀ (h : Fin 4) (r l : Fin 256) (j : Fin 1024), j.val = 256 * h.val + l.val → W' (ix2 r j) = headW (F := Ideal) k0_pay77 (page Z h) (page C h) (ix2 r l)) :
    Holds x2 J zr (t + 1) A' C' Z' W' := by
  have eB : 256 * (J - t) = 256 * (J - (t + 1)) + 256 := by omega
  have hs : ∀ h r k, k0_pay5 (F := Ideal) (page Z h) (ix2 r k) = ((sp (zr h r (256 * (J - (t + 1)) + k.val)) : ℝ) : EReal) :=
    fun h r k => sp_apply (page Z h) r k _ (H.sc ht h r k)
  have hc : ∀ h r k, page C h (ix3 0 r k) = ((tail (zr h r) (256 * J + r.val) (256 * (J - (t + 1)) + 256) : ℝ) : EReal) :=
    fun h r k => (H.car h r k).trans (by rw [eB])
  refine ⟨?_, ?_, ?_, ?_⟩
  · intro r l
    rw [hA, acc_step hJ t ht.le H o3 ho3 e3, eB]
  · intro h r l
    rw [hC, headC, c_apply (fun k => sp (zr h r (256 * (J - (t + 1)) + k.val))) _ _ r l _ (hs h r) (hc h r), above_full]
    congr 1
    have h1 := tail_succ (zr h r) (256 * (J - (t + 1)) + 256) (256 * (J - (t + 1))) (by omega)
    have h2 := tail_add (zr h r) (256 * J + r.val) (256 * (J - (t + 1))) (256 * (J - (t + 1)) + 256) (by omega) (by omega)
    show _ + (tail _ _ _ + sp (zr h r (256 * (J - (t + 1)) + 0))) = _
    rw [← h2, h1]
    simp only [Nat.add_zero]
    ring
  · intro ht' h r l
    have hl := l.isLt
    have hb : 256 * (J - (t + 2)) + l.val < 8192 := by omega
    rw [hZ, z_apply]
    have := hq h r ⟨256 * (J - (t + 2)) + l.val, hb⟩
    rw [← this]
    exact Finset.sum_congr rfl fun x _ => by rw [blkAt_apply x1 o4 ho4 _ e4 l x hb]
  · intro h r l j hj
    have hl := l.isLt
    rw [hW h r l j hj, headW, w_apply (fun k => sp (zr h r (256 * (J - (t + 1)) + k.val))) _ _ _ r l
      (zr h r (256 * (J - (t + 1)) + l.val)) _ ?_ (hs h r) (hc h r), above_full]
    · congr 1
      unfold wt
      rw [if_pos (by omega), ← tail_add (zr h r) (256 * J + r.val) (256 * (J - (t + 1)) + l.val + 1) (256 * (J - (t + 1)) + 256) (by omega) (by omega)]
    · refine Eq.trans (?_ : _ = page Z h (ix3 0 r l)) (H.sc ht h r l)
      pointwise [k0_pay4]

/-- The scratch arrays when the loop starts. -/
theorem start (hq : Scores x1 q zr) {A : Vec Ideal S256x256 .f32} {C : Vec Ideal S4x256x128 .f32}
    {D Z : Vec Ideal S4x256x256 .f32} {W : Vec Ideal S256x1024 .bf16}
    (hJ : J < 32)
    (o1 : Fin 3 → ℕ) (ho1 : ∀ a, o1 a + S1x256x256.size a ≤ S1x8192x256.size a) (e1 : o1 = ![0, 256 * J, 0])
    (o2 : Fin 3 → ℕ) (ho2 : ∀ a, o2 a + S1x256x256.size a ≤ S1x8192x256.size a) (e2 : o2 = ![0, 256 * (J - 1), 0])
    (hA : A = k0_pay79 (F := Ideal))
    (hD : ∀ (h : Fin 4) (r l : Fin 256), D (ix3 h r l) = headZ (F := Ideal) (q h) (blkAt x1 o1 ho1) (ix3 0 r l))
    (hC : ∀ (h : Fin 4) (r : Fin 256) (l : Fin 128), C (ix3 h r l) = k0_pay91 (F := Ideal) k0_pay77 k0_pay78 (k0_pay86 (page D h)) (Scalar.ofBits .f32 0x00000000#32) (page (k0_pay80 (F := Ideal)) h) (ix3 0 r l))
    (hZ : ∀ (h : Fin 4) (r l : Fin 256), Z (ix3 h r l) = headZ (F := Ideal) (q h) (blkAt x1 o2 ho2) (ix3 0 r l))
    (hW : ∀ (h : Fin 4) (r l : Fin 256) (j : Fin 1024), j.val = 256 * h.val + l.val → W (ix2 r j)
      = k0_pay90 (F := Ideal) k0_pay77 k0_pay78 (k0_pay86 (page D h)) (Scalar.ofBits .f32 0x00000000#32) (page (k0_pay80 (F := Ideal)) h) (ix2 r l)) :
    Holds x2 J zr 0 A C Z W := by
  have hsc : ∀ (o : Fin 3 → ℕ) (ho : ∀ a, o a + S1x256x256.size a ≤ S1x8192x256.size a) (B : ℕ) (hB : B + 256 ≤ 8192) (e : o = ![0, B, 0]) h r l,
      headZ (F := Ideal) (q h) (blkAt x1 o ho) (ix3 0 r l) = ((zr h r (B + l.val) : ℝ) : EReal) := by
    intro o ho B hB e h r l
    have hl := l.isLt
    have hb : B + l.val < 8192 := by omega
    rw [z_apply, ← hq h r ⟨B + l.val, hb⟩]
    exact Finset.sum_congr rfl fun x _ => by rw [blkAt_apply x1 o ho _ e l x hb]
  have hd' : ∀ h r l, (k0_pay86 (page D h)) (ix2 r l) = ((zr h r (256 * J + l.val) : ℝ) : EReal) := by
    intro h r l
    refine Eq.trans (?_ : _ = D (ix3 h r l)) ((hD h r l).trans (hsc o1 ho1 _ (by omega) e1 h r l))
    refine Eq.trans (?_ : _ = page D h (ix3 0 r l)) rfl
    pointwise [k0_pay86]
  have hs : ∀ h r k, k0_pay87 (F := Ideal) k0_pay78 (k0_pay86 (page D h)) (Scalar.ofBits .f32 0x00000000#32) (ix2 r k)
      = (((if k.val < r.val then sp (zr h r (256 * J + k.val)) else 0) : ℝ) : EReal) :=
    fun h r k => spd_apply _ r k _ (hd' h r k)
  have hc : ∀ (h : Fin 4) (r : Fin 256) (k : Fin 128), page (F := Ideal) (e := .f32) (n := 128) (k0_pay80 (F := Ideal)) h (ix3 0 r k) = ((0 : ℝ) : EReal) := by
    intro h r k
    refine Eq.trans (?_ : _ = k0_pay80 (F := Ideal) (ix3 h r k)) ?_
    · rfl
    · pointwise [k0_pay80]
      rfl
  have hab : ∀ (h : Fin 4) (r : Fin 256) (c : ℕ), ∑ k : Fin 256, (if c < k.val then (if k.val < r.val then sp (zr h r (256 * J + k.val)) else 0) else 0)
      = tail (zr h r) (256 * J + r.val) (256 * J + c + 1) := by
    intro h r c
    have hr := r.isLt
    unfold tail
    rw [← sum_above (fun u => sp (zr h r u)) (256 * J) (256 * J + r.val) c 256 rfl (by omega)]
    refine Finset.sum_congr rfl fun k _ => ?_
    by_cases h1 : k.val < r.val
    · rw [if_pos h1, if_pos (show 256 * J + k.val < 256 * J + r.val by omega)]
    · rw [if_neg h1, if_neg (show ¬ 256 * J + k.val < 256 * J + r.val by omega)]
  refine ⟨?_, ?_, ?_, ?_⟩
  · intro r l
    rw [hA, Nat.sub_zero, Finset.Ico_self, Finset.sum_empty]
    pointwise [k0_pay79]
  · intro h r l
    rw [hC, cd_eq, c_apply (fun k => if k.val < r.val then sp (zr h r (256 * J + k.val)) else 0) _ _ r l _ (hs h r) (hc h r), hab]
    congr 1
    rw [Nat.sub_zero]
    by_cases hr : 0 < r.val
    · show 0 + (_ + if 0 < r.val then sp (zr h r (256 * J + 0)) else 0) = _
      rw [if_pos hr, tail_succ (zr h r) (256 * J + r.val) (256 * J) (by omega)]
      simp only [Nat.add_zero]
      ring
    · show 0 + (_ + if 0 < r.val then sp (zr h r (256 * J + 0)) else 0) = _
      rw [if_neg hr, tail_of_le _ _ _ (by omega), tail_of_le _ _ _ (by omega)]
      ring
  · intro ht h r l
    rw [hZ]
    exact hsc o2 ho2 _ (by omega) e2 h r l
  · intro h r l j hj
    rw [hW h r l j hj, wd_eq, Nat.sub_zero]
    unfold wt
    by_cases hr : l.val < r.val
    · rw [if_pos hr, if_pos (by omega), w_apply (fun k => if k.val < r.val then sp (zr h r (256 * J + k.val)) else 0) _ _ _ r l
        _ _ (hd' h r l) (hs h r) (hc h r), hab]
      congr 2
      rw [if_pos hr, add_zero]
    · rw [if_neg hr, if_neg (by omega)]
      rfl

end Cert.KernelIdeal.Step

end
-- ==== Proof.Loop.lean ====
/- The kernel's loop over the earlier blocks: its number of passes, the blocks each pass reads, and what the scratch arrays hold
   after every pass. -/
module

public import proofs.«01_k».proof.Proof.Step

@[expose] public section

set_option maxRecDepth 65536

noncomputable section

namespace Cert.KernelIdeal.Loop

open Cert.KernelIdeal Cert.KernelIdeal.Gen Cert.KernelIdeal.Trip Cert.KernelIdeal.Start Cert.KernelIdeal.Step Idealize.ShloMosaic Idealize.ShloMosaic.TcCoe

/-- The loop runs once per earlier block. -/
theorem trips_eq : ∀ i : grid0.Coords, (k0_t1_loop i).trips = (i 2).val := by decide +kernel

/-- The second loop never runs. -/
theorem trips2_eq : ∀ i : grid0.Coords, (k0_t2_loop i).trips = 0 := by decide +kernel

/-- The block of scores prepared before the loop is the one before the diagonal. -/
theorem off2_eq : ∀ i : grid0.Coords, k0_off2 i = ![0, 256 * ((i 2).val - 1), 0] := by decide +kernel

/-- The values a pass reads are those of the block at hand. -/
theorem off3_eq : ∀ (i : grid0.Coords) (k : Fin (k0_t1_loop i).trips), k0_off3 i k = ![0, 256 * ((i 2).val - k.val), 0] := by decide +kernel

/-- The keys a pass reads are those of the block two ahead. -/
theorem off4_eq : ∀ (i : grid0.Coords) (k : Fin (k0_t1_loop i).trips), k0_off4 i k = ![0, 256 * ((i 2).val - (k.val + 2)), 0] := by decide +kernel

/-- The scratch arrays before every pass, whatever the loop starts from. -/
theorem holds (𝒱 : Variants) (c : Dev nD) (bd : Option 𝒱.V) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S256x256 .f32) (harg7 : arg7.IsWhole) (arg8 : Memref sig .tc .vmem S4x256x128 .f32) (harg8 : arg8.IsWhole) (arg9 : Memref sig .tc .vmem S4x256x256 .f32) (harg9 : arg9.IsWhole) (arg10 : Memref sig .tc .vmem S256x1024 .bf16) (harg10 : arg10.IsWhole) (arg2 : BitVec 32) (v24 : FVec Ideal S256x256 .bf16) (v25 : FVec Ideal S256x256 .bf16) (v26 : FVec Ideal S256x256 .bf16) (v27 : FVec Ideal S256x256 .bf16) (v227 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (init : BitVec 32) (x1 x2 : Vec Ideal S1x8192x256 .bf16) (q : Fin 4 → FVec Ideal S256x256 .bf16) (zr : Fin 4 → Fin 256 → ℕ → ℝ)
    (hv : (![v24, v25, v26, v27] : Fin 4 → FVec Ideal S256x256 .bf16) = q)
    (h4 : arg4.view.read (Elt Ideal) X_arg4 = x1) (h5 : arg5.view.read (Elt Ideal) X_arg5 = x2)
    (hq : Scores x1 q zr)
    (H0 : Holds x2 (i 2).val zr 0 (arg7.view.read (Elt Ideal) G_arg7) (arg8.view.read (Elt Ideal) G_arg8)
      (arg9.view.read (Elt Ideal) G_arg9) (arg10.view.read (Elt Ideal) G_arg10)) :
    ∀ t, t ≤ (i 2).val → Holds x2 (i 2).val zr t
      (arg7.view.read (Elt Ideal) (arg7.view.writes (Elt Ideal) G_arg7 (st_k0_t1 (F := Ideal) 𝒱 c bd i arg3 harg3 arg4 harg4 arg5 harg5 arg6 harg6 arg7 harg7 arg8 harg8 arg9 harg9 arg10 harg10 arg2 k0_pay68 k0_pay69 k0_pay70 k0_pay71 v24 v25 v26 v27 k0_pay77 v227 X_arg4 X_arg5 G_arg7 G_arg8 G_arg9 G_arg10 init t).2.1))
      (arg8.view.read (Elt Ideal) (arg8.view.writes (Elt Ideal) G_arg8 (st_k0_t1 (F := Ideal) 𝒱 c bd i arg3 harg3 arg4 harg4 arg5 harg5 arg6 harg6 arg7 harg7 arg8 harg8 arg9 harg9 arg10 harg10 arg2 k0_pay68 k0_pay69 k0_pay70 k0_pay71 v24 v25 v26 v27 k0_pay77 v227 X_arg4 X_arg5 G_arg7 G_arg8 G_arg9 G_arg10 init t).2.2.1))
      (arg9.view.read (Elt Ideal) (arg9.view.writes (Elt Ideal) G_arg9 (st_k0_t1 (F := Ideal) 𝒱 c bd i arg3 harg3 arg4 harg4 arg5 harg5 arg6 harg6 arg7 harg7 arg8 harg8 arg9 harg9 arg10 harg10 arg2 k0_pay68 k0_pay69 k0_pay70 k0_pay71 v24 v25 v26 v27 k0_pay77 v227 X_arg4 X_arg5 G_arg7 G_arg8 G_arg9 G_arg10 init t).2.2.2.1))
      (arg10.view.read (Elt Ideal) (arg10.view.writes (Elt Ideal) G_arg10 (st_k0_t1 (F := Ideal) 𝒱 c bd i arg3 harg3 arg4 harg4 arg5 harg5 arg6 harg6 arg7 harg7 arg8 harg8 arg9 harg9 arg10 harg10 arg2 k0_pay68 k0_pay69 k0_pay70 k0_pay71 v24 v25 v26 v27 k0_pay77 v227 X_arg4 X_arg5 G_arg7 G_arg8 G_arg9 G_arg10 init t).2.2.2.2)) := by
  subst hv h4 h5
  have hJ : (i 2).val < 32 := (i 2).isLt
  intro t
  induction t with
  | zero => intro _; exact H0
  | succ t ih =>
    intro ht
    have hk : t < (k0_t1_loop i).trips := by rw [trips_eq]; omega
    have ih' := ih (by omega)
    have e := st_k0_t1_succ (F := Ideal) 𝒱 c bd i arg3 harg3 arg4 harg4 arg5 harg5 arg6 harg6 arg7 harg7 arg8 harg8 arg9 harg9 arg10 harg10 arg2 k0_pay68 k0_pay69 k0_pay70 k0_pay71 v24 v25 v26 v27 k0_pay77 v227 X_arg4 X_arg5 G_arg7 G_arg8 G_arg9 G_arg10 init ⟨t, hk⟩
    dsimp only at e
    rw [e]
    clear e
    dsimp only
    generalize st_k0_t1 (F := Ideal) 𝒱 c bd i arg3 harg3 arg4 harg4 arg5 harg5 arg6 harg6 arg7 harg7 arg8 harg8 arg9 harg9 arg10 harg10 arg2 k0_pay68 k0_pay69 k0_pay70 k0_pay71 v24 v25 v26 v27 k0_pay77 v227 X_arg4 X_arg5 G_arg7 G_arg8 G_arg9 G_arg10 init t = S at ih' ⊢
    rw [View.writes_append, View.writes_append, View.writes_append, View.writes_append]
    refine step hJ hq t (by omega) ih' (k0_off3 i ⟨t, hk⟩) (k0_off3_inb i ⟨t, hk⟩) (off3_eq i ⟨t, hk⟩)
      (k0_off4 i ⟨t, hk⟩) (k0_off4_inb i ⟨t, hk⟩) (off4_eq i ⟨t, hk⟩) ?_ ?_ ?_ ?_
    · rw [trip7]
    · intro h r l
      rw [trip8]
    · intro h r l
      rw [trip9]
    · intro h r l j hj
      rw [trip10 (h := h) (r := r) (l := l) (j := j) (hj := hj)]

end Cert.KernelIdeal.Loop

end
-- ==== Proof.Block.lean ====
/- What one grid point of the kernel writes: for every query of its block the sum over the keys at or below it of the weights
   times the values. -/
module

public import proofs.«01_k».proof.Proof.Loop
public import Idealize.ShloMosaic.Lib.VecWindow

@[expose] public section

set_option maxRecDepth 65536

noncomputable section

namespace Cert.KernelIdeal.Block

open Cert.KernelIdeal Cert.KernelIdeal.Gen Cert.KernelIdeal.Trip Cert.KernelIdeal.Start Cert.KernelIdeal.Step Idealize.ShloMosaic Idealize.ShloMosaic.TcCoe
open Cert.Stick Finset

/-- The second loop leaves nothing when it does not run. -/
theorem idle (𝒱 : Variants) (c : Dev nD) (bd : Option 𝒱.V) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S256x256 .f32) (harg7 : arg7.IsWhole) (arg8 : Memref sig .tc .vmem S4x256x128 .f32) (harg8 : arg8.IsWhole) (arg9 : Memref sig .tc .vmem S4x256x256 .f32) (harg9 : arg9.IsWhole) (arg10 : Memref sig .tc .vmem S256x1024 .bf16) (harg10 : arg10.IsWhole) (arg2 : BitVec 32) (v7 : IVec S256x256 1) (v12 : IVec S256x256 1) (v17 : IVec S256x256 1) (v22 : IVec S256x256 1) (v24 : FVec Ideal S256x256 .bf16) (v25 : FVec Ideal S256x256 .bf16) (v26 : FVec Ideal S256x256 .bf16) (v27 : FVec Ideal S256x256 .bf16) (v34 : FVec Ideal S256x256 .bf16) (v227 : BitVec 32) (v252 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty) (init : BitVec 32) : st_k0_t2 (F := Ideal) 𝒱 c bd i arg3 harg3 arg4 harg4 arg5 harg5 arg6 harg6 arg7 harg7 arg8 harg8 arg9 harg9 arg10 harg10 arg2 v7 v12 v17 v22 v24 v25 v26 v27 v34 v227 v252 X_arg4 X_arg5 G_arg7 G_arg8 G_arg9 G_arg10 init 0 = (init, [], [], [], []) := rfl

variable (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x256 .bf16) (harg5 : arg5.IsWhole) (arg6 : Memref sig .tc .vmem S1x256x256 .f32) (harg6 : arg6.IsWhole) (arg7 : Memref sig .tc .vmem S256x256 .f32) (harg7 : arg7.IsWhole) (arg8 : Memref sig .tc .vmem S4x256x128 .f32) (harg8 : arg8.IsWhole) (arg9 : Memref sig .tc .vmem S4x256x256 .f32) (harg9 : arg9.IsWhole) (arg10 : Memref sig .tc .vmem S256x1024 .bf16) (harg10 : arg10.IsWhole)
  (x0 : Vec Ideal S1x256x256 .bf16) (x1 x2 : Vec Ideal S1x8192x256 .bf16)

/-- The accumulator after the loop. -/
theorem acc_end : kernelRun0_A.sl.v267 c i arg3 harg3 arg4 harg4 arg5 harg5 arg6 harg6 arg7 harg7 arg8 harg8 arg9 harg9 arg10 harg10 x0 x1 x2
    = (arg7.view.read (Elt Ideal) (arg7.view.writes (Elt Ideal) (arg7.view.writes (Elt Ideal) arg7.view.junk kernelRun0_A.sl.HS0_1) (st_k0_t1 (F := Ideal) Variants.none c none i arg3 harg3 arg4 harg4 arg5 harg5 arg6 harg6 arg7 harg7 arg8 harg8 arg9 harg9 arg10 harg10 (BitVec.ofNat 32 ↑(i 2)) k0_pay68 k0_pay69 k0_pay70 k0_pay71 (kernelRun0_A.sl.r c arg3 harg3 x0) (kernelRun0_A.sl.r_1 c arg3 harg3 x0) (kernelRun0_A.sl.r_2 c arg3 harg3 x0) (kernelRun0_A.sl.r_3 c arg3 harg3 x0) k0_pay77 (kernelRun0_A.sl.v227 i) (harg4.unread x1) (harg5.unread x2) (arg7.view.writes (Elt Ideal) arg7.view.junk kernelRun0_A.sl.HS0_1) (arg8.view.writes (Elt Ideal) arg8.view.junk (kernelRun0_A.sl.HS1_5 c i arg3 harg3 arg4 harg4 arg8 arg9 x0 x1)) (arg9.view.writes (Elt Ideal) arg9.view.junk (kernelRun0_A.sl.HS2_8 c i arg3 harg3 arg4 harg4 x0 x1)) (arg10.view.writes (Elt Ideal) arg10.view.junk (kernelRun0_A.sl.HS3_4 c i arg3 harg3 arg4 harg4 arg8 arg9 x0 x1)) 0#32 (i 2).val).2.1)) := by
  have h2 : Scf.trips (k0_t2_loop i).lb (k0_t2_loop i).ub (k0_t2_loop i).st = 0 := Loop.trips2_eq i
  have h1 : Scf.trips (k0_t1_loop i).lb (k0_t1_loop i).ub (k0_t1_loop i).st = (i 2).val := Loop.trips_eq i
  have hz : (![0, 0] : Fin 2 → ℕ) = fun _ => 0 := by funext a; fin_cases a <;> rfl
  unfold kernelRun0_A.sl.v267
  rw [h2, h1, idle]
  dsimp only
  rw [List.nil_append]
  unfold View.readCov
  rw [View.writes_append, View.readAt_eq_ld]
  exact View.ld_unit_zero (S := S256x256) hz _ _

/-- The weights of the last block after the loop. -/
theorem wts_end : kernelRun0_A.sl.v268 c i arg3 harg3 arg4 harg4 arg5 harg5 arg6 harg6 arg7 harg7 arg8 harg8 arg9 harg9 arg10 harg10 x0 x1 x2
    = (arg10.view.read (Elt Ideal) (arg10.view.writes (Elt Ideal) (arg10.view.writes (Elt Ideal) arg10.view.junk (kernelRun0_A.sl.HS3_4 c i arg3 harg3 arg4 harg4 arg8 arg9 x0 x1)) (st_k0_t1 (F := Ideal) Variants.none c none i arg3 harg3 arg4 harg4 arg5 harg5 arg6 harg6 arg7 harg7 arg8 harg8 arg9 harg9 arg10 harg10 (BitVec.ofNat 32 ↑(i 2)) k0_pay68 k0_pay69 k0_pay70 k0_pay71 (kernelRun0_A.sl.r c arg3 harg3 x0) (kernelRun0_A.sl.r_1 c arg3 harg3 x0) (kernelRun0_A.sl.r_2 c arg3 harg3 x0) (kernelRun0_A.sl.r_3 c arg3 harg3 x0) k0_pay77 (kernelRun0_A.sl.v227 i) (harg4.unread x1) (harg5.unread x2) (arg7.view.writes (Elt Ideal) arg7.view.junk kernelRun0_A.sl.HS0_1) (arg8.view.writes (Elt Ideal) arg8.view.junk (kernelRun0_A.sl.HS1_5 c i arg3 harg3 arg4 harg4 arg8 arg9 x0 x1)) (arg9.view.writes (Elt Ideal) arg9.view.junk (kernelRun0_A.sl.HS2_8 c i arg3 harg3 arg4 harg4 x0 x1)) (arg10.view.writes (Elt Ideal) arg10.view.junk (kernelRun0_A.sl.HS3_4 c i arg3 harg3 arg4 harg4 arg8 arg9 x0 x1)) 0#32 (i 2).val).2.2.2.2)) := by
  have h2 : Scf.trips (k0_t2_loop i).lb (k0_t2_loop i).ub (k0_t2_loop i).st = 0 := Loop.trips2_eq i
  have h1 : Scf.trips (k0_t1_loop i).lb (k0_t1_loop i).ub (k0_t1_loop i).st = (i 2).val := Loop.trips_eq i
  have hz : (![0, 0] : Fin 2 → ℕ) = fun _ => 0 := by funext a; fin_cases a <;> rfl
  unfold kernelRun0_A.sl.v268
  rw [h2, h1, idle]
  dsimp only
  rw [List.nil_append]
  rw [View.writes_append, View.readAt_eq_ld]
  exact View.ld_unit_zero (S := S256x1024) hz _ _

/-- The last product, over what the loop left. -/
theorem last : kernelRun0_A.sl.v275 c i arg3 harg3 arg4 harg4 arg5 harg5 arg6 harg6 arg7 harg7 arg8 harg8 arg9 harg9 arg10 harg10 x0 x1 x2
    = k0_pay1 k0_pay68 k0_pay69 k0_pay70 k0_pay71 (kernelRun0_A.sl.r_8 arg5 harg5 x2) (kernelRun0_A.sl.v267 c i arg3 harg3 arg4 harg4 arg5 harg5 arg6 harg6 arg7 harg7 arg8 harg8 arg9 harg9 arg10 harg10 x0 x1 x2) (kernelRun0_A.sl.v268 c i arg3 harg3 arg4 harg4 arg5 harg5 arg6 harg6 arg7 harg7 arg8 harg8 arg9 harg9 arg10 harg10 x0 x1 x2) := by
  unfold kernelRun0_A.sl.v275 kernelRun0_A.sl.HS0_1_1
  exact View.readCov_full (s := S256x256) arg7.view inb_S256x256_S256x256_0_0 inb_S256x256_S256x256_0_0 _ _

/-- The grid point's block of the output. -/
theorem out_apply (zr : Fin 4 → Fin 256 → ℕ → ℝ) (hq : Scores x1 (qs x0) zr) (r l : Fin 256) :
    out0_A_3 c i arg3 harg3 arg4 harg4 arg5 harg5 arg6 harg6 arg7 harg7 arg8 harg8 arg9 harg9 arg10 harg10 x0 x1 x2 (ix3 0 r l)
      = ∑ s ∈ range (256 * (i 2).val + 256), ((wt (zr (hd l) r) (256 * (i 2).val + r.val) s : ℝ) : EReal) * vv x2 s l := by
  have hJ : (i 2).val < 32 := (i 2).isLt
  have hz3 : (![0, 0, 0] : Fin 3 → ℕ) = fun _ => 0 := by funext a; fin_cases a <;> rfl
  have hz2 : (![0, 0] : Fin 2 → ℕ) = fun _ => 0 := by funext a; fin_cases a <;> rfl
  have eq : (![(kernelRun0_A.sl.r c arg3 harg3 x0), (kernelRun0_A.sl.r_1 c arg3 harg3 x0), (kernelRun0_A.sl.r_2 c arg3 harg3 x0), (kernelRun0_A.sl.r_3 c arg3 harg3 x0)] : Fin 4 → FVec Ideal S256x256 .bf16) = qs x0 := by
    unfold kernelRun0_A.sl.r kernelRun0_A.sl.r_1 kernelRun0_A.sl.r_2 kernelRun0_A.sl.r_3
    rw [load_q]
    rfl
  have H0 := start (x2 := x2) (J := (i 2).val) hq hJ (k0_off1 i) (k0_off1_inb i) (k0_off1_eq i) (k0_off2 i) (k0_off2_inb i) (Loop.off2_eq i)
    (start7 arg7) (diag_z c i arg3 harg3 arg4 harg4 arg9 x0 x1) (start8 c i arg3 harg3 arg4 harg4 arg8 arg9 x0 x1)
    (start9 c i arg3 harg3 arg4 harg4 arg9 x0 x1) (start10 c i arg3 harg3 arg4 harg4 arg8 arg9 arg10 x0 x1)
  have H := Loop.holds (𝒱 := Variants.none) c none i arg3 harg3 arg4 harg4 arg5 harg5 arg6 harg6 arg7 harg7 arg8 harg8 arg9 harg9 arg10 harg10 (BitVec.ofNat 32 ↑(i 2)) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.v227 i)
    (harg4.unread x1) (harg5.unread x2) _ _ _ _ 0#32 x1 x2 (qs x0) zr eq (Memref.IsWhole.read_unread _ _) (Memref.IsWhole.read_unread _ _) hq H0 (i 2).val le_rfl
  unfold out0_A_3
  rw [View.read_writes_eq_canon _ _ _ (cover0_A_3 c i arg3 harg3 arg4 harg4 arg5 harg5 arg6 harg6 arg7 harg7 arg8 harg8 arg9 harg9 arg10 harg10 x0 x1 x2)]
  unfold kernelRun0_A
  dsimp only
  rw [View.canon_unit_zero (S := S1x256x256) hz3]
  refine Eq.trans (?_ : _ = kernelRun0_A.sl.v275 c i arg3 harg3 arg4 harg4 arg5 harg5 arg6 harg6 arg7 harg7 arg8 harg8 arg9 harg9 arg10 harg10 x0 x1 x2 (ix2 r l)) ?_
  · pointwise [k0_pay2]
  rw [last]
  rw [acc_end, wts_end]
  have hb : kernelRun0_A.sl.r_8 arg5 harg5 x2 = blkAt x2 ![0, 0, 0] inb_S1x8192x256_S1x256x256_0_0_0 := by
    unfold kernelRun0_A.sl.r_8
    rw [View.readAt_eq_ld, Memref.IsWhole.read_unread]
  rw [hb]
  refine (acc_step hJ (i 2).val le_rfl H ![0, 0, 0] inb_S1x8192x256_S1x256x256_0_0_0 (by rw [Nat.sub_self]) r l).trans ?_
  rw [Nat.sub_self, Nat.mul_zero, Finset.range_eq_Ico]

end Cert.KernelIdeal.Block

end
-- ==== Proof.Array.lean ====
/- The kernel's output array: at every batch, position and lane the sum over all keys of the weights times the values. -/
module

public import proofs.«01_k».proof.Proof.Block
public import proofs.«01_k».proof.Proof.Gen.KernelIdeal.Value
public import Idealize.ShloMosaic.Lib.Pipeline.ValueKit

@[expose] public section

set_option maxRecDepth 65536

noncomputable section

namespace Cert.KernelIdeal.Whole

open Cert.KernelIdeal Cert.KernelIdeal.Gen Cert.KernelIdeal.Step Cert.KernelIdeal.Start Cert.KernelIdeal.Pay Idealize.ShloMosaic Idealize.ShloMosaic.TcCoe
open Cert.Stick Finset

/-- Which block of the queries a grid point takes. -/
theorem idx0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])

/-- Which block of the keys a grid point takes. -/
theorem idx1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])

/-- Which block of the values a grid point takes. -/
theorem idx2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])

/-- Which block of the output a grid point writes. -/
theorem idx3 : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

variable (m : (ℓ : Loc nD τ sig) → Buf (Elt Ideal) ℓ) (c : Dev nD)

/-- The queries, keys and values as launched. -/
abbrev Q : Vec Ideal S2x8192x512 .bf16 := m ((c : Thread nD τ).loc main_arg0)
abbrev K : Vec Ideal S2x8192x512 .bf16 := m ((c : Thread nD τ).loc main_arg1)
abbrev U : Vec Ideal S2x8192x512 .bf16 := m ((c : Thread nD τ).loc main_arg2)

/-- A grid point's block of queries, at one index. -/
theorem blk0 (t : Fin cfg0.N) (r l : Fin 256) (b : Fin 2) (n : Fin 8192) (j : Fin 512) (hb : b.val = (grid0.coords t 0).val)
    (hn : n.val = 256 * (grid0.coords t 2).val + r.val) (hj : j.val = 256 * (grid0.coords t 1).val + l.val) :
    iblk m c 0 t (ix3 0 r l) = Q m c (ix3 b n j) := by
  unfold iblk
  blk_simp
  rw [V_main_arg0]
  refine congrArg (m ((c : Thread nD τ).loc main_arg0)) (funext fun a => Fin.ext ?_)
  match a with
  | ⟨0, _⟩ => blk_simp [idx0]; show _ + 0 = _; omega
  | ⟨1, _⟩ => blk_simp [idx0]; show _ + r.val = n.val; omega
  | ⟨2, _⟩ => blk_simp [idx0]; show _ + l.val = j.val; omega

/-- A grid point's keys, at one index. -/
theorem blk1 (t : Fin cfg0.N) (s : Fin 8192) (l : Fin 256) (b : Fin 2) (j : Fin 512) (hb : b.val = (grid0.coords t 0).val)
    (hj : j.val = 256 * (grid0.coords t 1).val + l.val) :
    iblk m c 1 t (ix3 0 s l) = K m c (ix3 b s j) := by
  unfold iblk
  blk_simp
  rw [V_main_arg1]
  refine congrArg (m ((c : Thread nD τ).loc main_arg1)) (funext fun a => Fin.ext ?_)
  match a with
  | ⟨0, _⟩ => blk_simp [idx1]; show _ + 0 = _; omega
  | ⟨1, _⟩ => blk_simp [idx1]
  | ⟨2, _⟩ => blk_simp [idx1]; show _ + l.val = j.val; omega

/-- A grid point's values, at one index. -/
theorem blk2 (t : Fin cfg0.N) (s : Fin 8192) (l : Fin 256) (b : Fin 2) (j : Fin 512) (hb : b.val = (grid0.coords t 0).val)
    (hj : j.val = 256 * (grid0.coords t 1).val + l.val) :
    iblk m c 2 t (ix3 0 s l) = U m c (ix3 b s j) := by
  unfold iblk
  blk_simp
  rw [V_main_arg2]
  refine congrArg (m ((c : Thread nD τ).loc main_arg2)) (funext fun a => Fin.ext ?_)
  match a with
  | ⟨0, _⟩ => blk_simp [idx2]; show _ + 0 = _; omega
  | ⟨1, _⟩ => blk_simp [idx2]
  | ⟨2, _⟩ => blk_simp [idx2]; show _ + l.val = j.val; omega

/-- A sum over a step's 256 lanes in which only one head's 64 lanes count. -/
theorem sum_lanes (f : Fin 256 → EReal) (h : Fin 4) :
    ∑ x : Fin 256, (if x.val / 64 = h.val then f x else 0) = ∑ d : Fin 64, f ⟨64 * h.val + d.val, by omega⟩ := by
  rw [← Finset.sum_filter]
  symm
  refine Finset.sum_bij (fun d _ => ⟨64 * h.val + d.val, by omega⟩) ?_ ?_ ?_ ?_
  · intro d _
    rw [Finset.mem_filter]
    refine ⟨Finset.mem_univ _, ?_⟩
    show (64 * h.val + d.val) / 64 = h.val
    omega
  · intro d _ d' _ e
    have := congrArg Fin.val e
    exact Fin.ext (by simp only at this; omega)
  · intro x hx
    rw [Finset.mem_filter] at hx
    have h1 := hx.2
    have h2 := x.isLt
    exact ⟨⟨x.val % 64, by omega⟩, Finset.mem_univ _, Fin.ext (by show 64 * h.val + x.val % 64 = x.val; omega)⟩
  · intro d _
    rfl

/-- The lane of a head's dimension. -/
def lane (h : Fin 8) (d : Fin 64) : Fin 512 := ⟨64 * h.val + d.val, by omega⟩

/-- The head of a lane. -/
def head (j : Fin 512) : Fin 8 := ⟨j.val / 64, by omega⟩

/-- The value a key position has at a lane, zero past the end. -/
def uu (b : Fin 2) (j : Fin 512) (s : ℕ) : EReal := if h : s < 8192 then U m c (ix3 b ⟨s, h⟩ j) else 0

/-- The array the kernel is to leave. -/
def target (zz : Fin 2 → Fin 8 → Fin 8192 → ℕ → ℝ) (b : Fin 2) (n : Fin 8192) (j : Fin 512) : EReal :=
  ∑ s ∈ range 8192, ((wt (zz b (head j) n) n.val s : ℝ) : EReal) * uu m c b j s

variable (zz : Fin 2 → Fin 8 → Fin 8192 → ℕ → ℝ)

/-- Every score of every query of every head is the real `zz` names. -/
def AllScores : Prop := ∀ b h (n s : Fin 8192), ∑ d : Fin 64, Q m c (ix3 b n (lane h d)) * K m c (ix3 b s (lane h d)) = ((zz b h n s.val : ℝ) : EReal)

variable {m c zz}

/-- What a grid point leaves in its block of the output. -/
theorem point (hz : AllScores m c zz) (t : Fin cfg0.N) (r l : Fin 256) (b : Fin 2) (n : Fin 8192) (j : Fin 512) (hb : b.val = (grid0.coords t 0).val)
    (hn : n.val = 256 * (grid0.coords t 2).val + r.val) (hj : j.val = 256 * (grid0.coords t 1).val + l.val) :
    outsAt0 m c t (ix3 0 r l) = target m c zz b n j := by
  have h0 : (grid0.coords t 0).val < 2 := (grid0.coords t 0).isLt
  have h1 : (grid0.coords t 1).val < 2 := (grid0.coords t 1).isLt
  have h2 : (grid0.coords t 2).val < 32 := (grid0.coords t 2).isLt
  unfold outsAt0
  rw [Block.out_apply c (grid0.coords t) _ _ _ _ _ _ _ _ _ _ _ _ _ _ _ _ (iblk m c 0 t) (iblk m c 1 t) (iblk m c 2 t)
    (fun h r' s => zz b ⟨4 * (grid0.coords t 1).val + h.val, by omega⟩ ⟨256 * (grid0.coords t 2).val + r'.val, by omega⟩ s) ?_ r l]
  · unfold target
    have hl := l.isLt
    have hr := r.isLt
    have eh : (⟨4 * (grid0.coords t 1).val + (hd l).val, by have := (hd l).isLt; omega⟩ : Fin 8) = head j :=
      Fin.ext (by show 4 * (grid0.coords t 1).val + l.val / 64 = j.val / 64; omega)
    have en : (⟨256 * (grid0.coords t 2).val + r.val, by omega⟩ : Fin 8192) = n := Fin.ext hn.symm
    simp only [eh, en, ← hn]
    refine Eq.trans (Finset.sum_congr rfl fun s hs => ?_) (Finset.sum_subset (Finset.range_subset_range.2 (by omega : 256 * (grid0.coords t 2).val + 256 ≤ 8192)) ?_)
    · have hs' : s < 8192 := by have := Finset.mem_range.1 hs; omega
      rw [vv_lt _ _ hs', blk2 m c t ⟨s, hs'⟩ l b j hb hj]
      unfold uu
      rw [dif_pos hs']
    · intro s _ hs
      rw [Finset.mem_range] at hs
      have : ¬ s < n.val := by omega
      unfold wt
      rw [if_neg this, EReal.coe_zero, zero_mul]
  · intro h r' s
    have hh := h.isLt
    have hr := r'.isLt
    have hz' := hz b ⟨4 * (grid0.coords t 1).val + h.val, by omega⟩ ⟨256 * (grid0.coords t 2).val + r'.val, by omega⟩ s
    rw [← hz']
    refine Eq.trans (Finset.sum_congr rfl fun x _ => ?_) ((sum_lanes (fun x => Q m c (ix3 b ⟨256 * (grid0.coords t 2).val + r'.val, by omega⟩ ⟨256 * (grid0.coords t 1).val + x.val, by omega⟩)
      * K m c (ix3 b s ⟨256 * (grid0.coords t 1).val + x.val, by omega⟩)) h).trans (Finset.sum_congr rfl fun d _ => ?_))
    · refine (congrArg (· * _) (q_apply (iblk m c 0 t) h r' x)).trans ?_
      rw [blk0 m c t r' x b ⟨256 * (grid0.coords t 2).val + r'.val, by omega⟩ ⟨256 * (grid0.coords t 1).val + x.val, by omega⟩ hb rfl rfl,
        blk1 m c t s x b ⟨256 * (grid0.coords t 1).val + x.val, by omega⟩ hb rfl]
      split
      · rfl
      · exact zero_mul _
    · have e : (⟨256 * (grid0.coords t 1).val + (64 * h.val + d.val), by omega⟩ : Fin 512) = lane ⟨4 * (grid0.coords t 1).val + h.val, by omega⟩ d :=
        Fin.ext (by show _ = 64 * (4 * (grid0.coords t 1).val + h.val) + d.val; simp only; omega)
      show Q m c (ix3 b _ ⟨256 * (grid0.coords t 1).val + (64 * h.val + d.val), _⟩) * K m c (ix3 b s ⟨256 * (grid0.coords t 1).val + (64 * h.val + d.val), _⟩) = _
      rw [e]

/-- The whole output array. -/
theorem array (hz : AllScores m c zz) :
    (dats m 0 c).arrAt 3 cfg0.N = (fun y : S2x8192x512.Idx => target m c zz (y 0) (y 1) (y 2)) := by
  refine (dats m 0 c).arrAt_eq_of_covers 3 _ (by decide +kernel) fun t hf y => ?_
  blk_simp
  rw [after0_3]
  have e0 : (((cfg0.win 3).blk t).view.emb y 0 : Fin 2).val = (grid0.coords t 0).val := by
    blk_simp [idx3]
  have e1 : (((cfg0.win 3).blk t).view.emb y 1 : Fin 8192).val = 256 * (grid0.coords t 2).val + (y 1).val := by
    blk_simp [idx3]; omega
  have e2 : (((cfg0.win 3).blk t).view.emb y 2 : Fin 512).val = 256 * (grid0.coords t 1).val + (y 2).val := by
    blk_simp [idx3]; omega
  have ey : y = ix3 (0 : Fin 1) (y 1 : Fin 256) (y 2 : Fin 256) := by
    funext a
    match a with
    | ⟨0, _⟩ => exact Subsingleton.elim (α := Fin 1) _ _
    | ⟨1, _⟩ => rfl
    | ⟨2, _⟩ => rfl
  exact (congrArg (outsAt0 m c t) ey).trans (point hz t (y 1) (y 2) _ _ _ e0 e1 e2)

end Cert.KernelIdeal.Whole

end
-- ==== Proof.Suffix.lean ====
/- The running sum from the end of an axis, read at an index. Nothing here mentions a program. -/
module

public import proofs.«01_k».proof.Proof.Maths
public import Idealize.ShloMosaic.Lib.Pointwise

@[expose] public section

set_option maxRecDepth 65536

noncomputable section

namespace Cert.Stick

open Idealize.ShloMosaic Finset

/-- Adding up a list of reals one after another among the extended reals. -/
theorem foldl_real {α : Type*} (G : α → EReal) (g : α → ℝ) (hG : ∀ a, G a = ((g a : ℝ) : EReal)) (l : List α) (v : ℝ) :
    l.foldl (fun r a => r + G a) ((v : ℝ) : EReal) = ((v + (l.map g).sum : ℝ) : EReal) := by
  induction l generalizing v with
  | nil => simp
  | cons a l ih => rw [List.foldl_cons, hG, ← EReal.coe_add, ih, List.map_cons, List.sum_cons, add_assoc]

/-- The window's one long axis lists its indices. -/
def slot {N : Nat} (k : Fin N) : (⟨4, ![1, 1, 1, N]⟩ : Shape).Idx := ix4 (0 : Fin 1) (0 : Fin 1) (0 : Fin 1) k

theorem slot_bij (N : Nat) : Function.Bijective (slot : Fin N → (⟨4, ![1, 1, 1, N]⟩ : Shape).Idx) := by
  constructor
  · intro a b hab
    exact congrFun hab 3
  · intro i
    refine ⟨i 3, funext fun a => ?_⟩
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The terms a window starting at `s` meets, the ones past the end being zero, add up to the terms from `s` on. -/
theorem sum_from (f : ℕ → ℝ) (N s : ℕ) (hs : s < N) :
    ∑ k : Fin N, (if s + k.val < N then f (s + k.val) else 0) = ∑ u ∈ Ico s N, f u := by
  rw [Fin.sum_univ_eq_sum_range (fun k => if s + k < N then f (s + k) else 0) N, ← Finset.sum_filter]
  refine Finset.sum_bij (fun k _ => s + k) ?_ ?_ ?_ ?_
  · intro k hk; simp only [mem_filter, mem_range, mem_Ico] at hk ⊢; omega
  · intro a _ a' _ h; omega
  · intro u hu
    simp only [mem_Ico] at hu
    exact ⟨u - s, by simp only [mem_filter, mem_range]; omega, by omega⟩
  · intro k _; rfl

/-- A sum along the last axis of a rank-four array, every entry the sum of the entries from its own position on. -/
theorem suffix {A B C N Nm1 : Nat} (hN : Nm1 + 1 = N) (x : (⟨4, ![A, B, C, N]⟩ : Shape).Idx → EReal) (a : Fin A) (b : Fin B)
    (c : Fin C) (f : ℕ → ℝ) (hx : ∀ u : Fin N, x (ix4 a b c u) = ((f u.val : ℝ) : EReal))
    {U : Shape} (init : U.Idx → EReal) (hinit : ∀ i, init i = ((0 : ℝ) : EReal))
    (h : (⟨4, ![A, B, C, N]⟩ : Shape).ReduceWindows (![1, 1, 1, N] : Fin 4 → Nat) ![1, 1, 1, 1] ![0, 0, 0, 0] ![0, 0, 0, Nm1] ⟨4, ![A, B, C, N]⟩)
    (hu : 0 < U.numel) (s : Fin N) :
    (Host.reduceWindow (· + ·) ![1, 1, 1, N] ![1, 1, 1, 1] ![0, 0, 0, 0] ![0, 0, 0, Nm1] x init h hu (ix4 a b c s) : EReal)
      = ((∑ u ∈ Ico s.val N, f u : ℝ) : EReal) := by
  unfold Host.reduceWindow
  dsimp only
  rw [hinit]
  refine (foldl_real _ (fun n => (fun i : (⟨4, ![1, 1, 1, N]⟩ : Shape).Idx => if s.val + (i 3).val < N then f (s.val + (i 3).val) else 0)
    ((⟨4, ![1, 1, 1, N]⟩ : Shape).rowMajor.symm n)) (fun n => ?_) _ 0).trans ?_
  · have hi0 : ((⟨4, ![1, 1, 1, N]⟩ : Shape).rowMajor.symm n 0).val = 0 := Nat.lt_one_iff.mp ((⟨4, ![1, 1, 1, N]⟩ : Shape).rowMajor.symm n 0).isLt
    have hi1 : ((⟨4, ![1, 1, 1, N]⟩ : Shape).rowMajor.symm n 1).val = 0 := Nat.lt_one_iff.mp ((⟨4, ![1, 1, 1, N]⟩ : Shape).rowMajor.symm n 1).isLt
    have hi2 : ((⟨4, ![1, 1, 1, N]⟩ : Shape).rowMajor.symm n 2).val = 0 := Nat.lt_one_iff.mp ((⟨4, ![1, 1, 1, N]⟩ : Shape).rowMajor.symm n 2).isLt
    split
    · next hin =>
      have h3 : 0 ≤ s.val * 1 + ((⟨4, ![1, 1, 1, N]⟩ : Shape).rowMajor.symm n 3).val
        ∧ s.val * 1 + ((⟨4, ![1, 1, 1, N]⟩ : Shape).rowMajor.symm n 3).val - 0 < N := hin 3
      have h4 : s.val + ((⟨4, ![1, 1, 1, N]⟩ : Shape).rowMajor.symm n 3).val < N := by omega
      dsimp only
      rw [if_pos h4]
      refine (congrArg x (funext fun e => Fin.ext ?_)).trans (hx ⟨s.val + ((⟨4, ![1, 1, 1, N]⟩ : Shape).rowMajor.symm n 3).val, h4⟩)
      match e with
      | ⟨0, _⟩ =>
        show a.val * 1 + ((⟨4, ![1, 1, 1, N]⟩ : Shape).rowMajor.symm n 0).val - 0 = a.val
        omega
      | ⟨1, _⟩ =>
        show b.val * 1 + ((⟨4, ![1, 1, 1, N]⟩ : Shape).rowMajor.symm n 1).val - 0 = b.val
        omega
      | ⟨2, _⟩ =>
        show c.val * 1 + ((⟨4, ![1, 1, 1, N]⟩ : Shape).rowMajor.symm n 2).val - 0 = c.val
        omega
      | ⟨3, _⟩ =>
        show s.val * 1 + ((⟨4, ![1, 1, 1, N]⟩ : Shape).rowMajor.symm n 3).val - 0 = s.val + ((⟨4, ![1, 1, 1, N]⟩ : Shape).rowMajor.symm n 3).val
        omega
    · next hin =>
      dsimp only
      rw [if_neg fun h4 => hin fun e => by
        match e with
        | ⟨0, _⟩ =>
          show 0 ≤ a.val * 1 + ((⟨4, ![1, 1, 1, N]⟩ : Shape).rowMajor.symm n 0).val
            ∧ a.val * 1 + ((⟨4, ![1, 1, 1, N]⟩ : Shape).rowMajor.symm n 0).val - 0 < A
          have := a.isLt; omega
        | ⟨1, _⟩ =>
          show 0 ≤ b.val * 1 + ((⟨4, ![1, 1, 1, N]⟩ : Shape).rowMajor.symm n 1).val
            ∧ b.val * 1 + ((⟨4, ![1, 1, 1, N]⟩ : Shape).rowMajor.symm n 1).val - 0 < B
          have := b.isLt; omega
        | ⟨2, _⟩ =>
          show 0 ≤ c.val * 1 + ((⟨4, ![1, 1, 1, N]⟩ : Shape).rowMajor.symm n 2).val
            ∧ c.val * 1 + ((⟨4, ![1, 1, 1, N]⟩ : Shape).rowMajor.symm n 2).val - 0 < C
          have := c.isLt; omega
        | ⟨3, _⟩ =>
          show 0 ≤ s.val * 1 + ((⟨4, ![1, 1, 1, N]⟩ : Shape).rowMajor.symm n 3).val
            ∧ s.val * 1 + ((⟨4, ![1, 1, 1, N]⟩ : Shape).rowMajor.symm n 3).val - 0 < N
          omega]
  · rw [zero_add, ← Fin.sum_univ_def, ← sum_from f N s.val s.isLt,
      Equiv.sum_comp (⟨4, ![1, 1, 1, N]⟩ : Shape).rowMajor.symm
        (fun i : (⟨4, ![1, 1, 1, N]⟩ : Shape).Idx => if s.val + (i 3).val < N then f (s.val + (i 3).val) else (0 : ℝ))]
    exact congrArg _ (Fintype.sum_bijective slot (slot_bij N) _ _ fun k => rfl).symm

end Cert.Stick
-- ==== Proof.Ref.lean ====
/- The reference read entry by entry: where the scores are real, every weight is the real weight and every result the sum of
   the values under the weights. -/
module

public import proofs.«01_k».proof.Proof.Suffix
public import proofs.«01_k».proof.Proof.Array
public import proofs.«01_k».proof.Proof.Gen.ReferenceIdeal.Run
public import Idealize.ShloMosaic.Lib.WordCmp

@[expose] public section

set_option maxRecDepth 3000

noncomputable section

namespace Cert.ReferenceIdeal.Ref

open Cert.ReferenceIdeal Cert.ReferenceIdeal.Gen Idealize.ShloMosaic Idealize.ShloMosaic.TcCoe Cert.Stick Finset
open Cert.KernelIdeal.Whole (lane head)

abbrev Tall := FVec Ideal S2x8192x512 .bf16
abbrev Heads := FVec Ideal S2x8x8192x64 .f32
abbrev Pairs := FVec Ideal S2x8x8192x8192 .f32

/-- The columns parts into the heads, the heads before the positions. -/
def parts (x : Tall) : Heads :=
  transpose S2x8x8192x64 [0, 2, 1, 3] (shapeCast _ (extf .f32 x bitsLt_bf16_f32) shapeCasts_S2x8192x512_S2x8192x8x64)
    transposes_S2x8192x8x64_S2x8x8192x64_0_2_1_3

/-- Every query's score at every key. -/
def scores (q k : Tall) : Pairs :=
  Host.dotGeneral dot_S2x8x8192x64_S2x8x8192x64_S2x8x8192x8192_3_3_2_2_01_01 none (parts q) (parts k)

/-- Which keys lie before a query. -/
def before : IVec S2x8x8192x8192 1 :=
  broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Zeros. -/
def zeros : Pairs := broadcastInDim S2x8x8192x8192 ![] bcast_S_S2x8x8192x8192 (constant (F := Ideal) S_ .f32 0x00000000#32)

/-- The logarithm of the sigmoid of an array. -/
def logSig (x : Pairs) : Pairs :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- The logarithm of the chance of passing a key by, nothing where the key does not lie before the query. -/
def stay (z : Pairs) : Pairs := select before (logSig (Host.negf z)) zeros

/-- The sum of those from every key on. -/
def cum (x : Pairs) : Pairs :=
  Host.reduceWindowAdd ![1, 1, 1, 8192] ![1, 1, 1, 1] ![0, 0, 0, 0] ![0, 0, 0, 8191] x
    (broadcastInDim S_ ![] bcast_S_S_ (constant (F := Ideal) S_ .f32 0x00000000#32))
    reduceWindows_S2x8x8192x8192_S2x8x8192x8192_w1s1p0_0_w1s1p0_0_w1s1p0_0_w8192s1p0_8191 h_S_

/-- The weights. -/
def weights (z : Pairs) : Pairs :=
  select before (Host.exp (addf (logSig z) (subf (cum (stay z)) (stay z)))) zeros

/-- The values summed under the weights, the heads side by side again. -/
def out (w : Pairs) (v : Tall) : FVec Ideal S2x8192x512 .f32 :=
  shapeCast _ (transpose S2x8192x8x64 [0, 2, 1, 3] (Host.dotGeneral dot_S2x8x8192x8192_S2x8x8192x64_S2x8x8192x64_3_2_2_3_01_01 none w (parts v))
    transposes_S2x8x8192x64_S2x8192x8x64_0_2_1_3) shapeCasts_S2x8192x8x64_S2x8192x512

/-- The reference's result is those steps in turn. -/
theorem res_eq (m : (ℓ : Loc nD τ sig) → Buf (Elt Ideal) ℓ) (c : Dev nD) :
    Cert.ReferenceIdeal.Value.res_main_v27 (F := Ideal) m c
      = out (weights (scores (m ((c.tc : Thread nD τ).loc main_arg0)) (m ((c.tc : Thread nD τ).loc main_arg1)))) (m ((c.tc : Thread nD τ).loc main_arg2)) := rfl

/-- Zero everywhere. -/
theorem zeros_at (b : Fin 2) (h : Fin 8) (n s : Fin 8192) : zeros (ix4 b h n s) = (0 : EReal) := by
  pointwise [zeros]

/-- A key lies before a query when its position is the smaller. -/
theorem before_at (b : Fin 2) (h : Fin 8) (n s : Fin 8192) : before (ix4 b h n s) = if s.val < n.val then 1#1 else 0#1 := by
  pointwise [before]
  have := n.isLt
  have := s.isLt
  rw [WordCmp.cmpi_slt_ofNat (w := 32) (by omega) (by omega)]
  by_cases h : s.val < n.val <;> simp [h]

/-- A head's lane is the array's lane of that head. -/
theorem parts_at (x : Tall) (b : Fin 2) (h : Fin 8) (n : Fin 8192) (d : Fin 64) : parts x (ix4 b h n d) = x (ix3 b n (lane h d)) := by
  pointwise [parts]
  exact congrArg (fun l => x (ix3 b n l)) (Fin.ext (by show h.val * 64 + d.val = 64 * h.val + d.val; omega))

/-- A score is the product of a query and a key over a head's lanes. -/
theorem scores_at (q k : Tall) (b : Fin 2) (h : Fin 8) (n s : Fin 8192) :
    scores q k (ix4 b h n s) = ∑ d : Fin 64, parts q (ix4 b h n d) * parts k (ix4 b h s d) := by
  pointwise [scores]

/-- The logarithm of the sigmoid at a real is minus the softplus at its opposite. -/
theorem logSig_at (x : Pairs) (b : Fin 2) (h : Fin 8) (n s : Fin 8192) (r : ℝ) (hr : x (ix4 b h n s) = (r : EReal)) :
    logSig x (ix4 b h n s) = ((-(sp (-r)) : ℝ) : EReal) := by
  pointwise [logSig]
  rw [zeros_at, hr, if_neg (fun h => h rfl), sub_zero, ← EReal.coe_neg, absf_coe, ← EReal.coe_neg, Ideal.exp_coe]
  show -(max ((-r : ℝ) : EReal) 0 + Ideal.log (1 + ((Real.exp (-|(-r)|) : ℝ) : EReal))) = _
  rw [← EReal.coe_one, ← EReal.coe_add, Ideal.log_coe, if_neg (not_le.mpr (one_add_exp_pos _)), ← EReal.coe_zero, coe_max,
    ← EReal.coe_add, sp_eq_max, EReal.coe_neg]

/-- The reference's result at a lane: the lane's values at every key under its head's weights. -/
theorem out_at (w : Pairs) (v : Tall) (b : Fin 2) (n : Fin 8192) (j : Fin 512) :
    out w v (ix3 b n j) = ∑ s : Fin 8192, w (ix4 b (head j) n s) * v (ix3 b s j) := by
  pointwise [out]
  refine Finset.sum_congr rfl fun s _ => ?_
  rw [parts_at]
  exact congrArg (fun l => w (ix4 b (head j) n s) * v (ix3 b s l))
    (Fin.ext (by show 64 * (j.val / 64) + j.val % 64 = j.val; omega))

section
variable (z : Pairs) (b : Fin 2) (h : Fin 8) (n : Fin 8192) (f : ℕ → ℝ) (hz : ∀ s : Fin 8192, z (ix4 b h n s) = ((f s.val : ℝ) : EReal))
include hz

/-- What passing a key by costs, negated. -/
theorem stay_at (s : Fin 8192) : stay z (ix4 b h n s) = (((if s.val < n.val then -(sp (f s.val)) else 0) : ℝ) : EReal) := by
  have e : Host.negf z (ix4 b h n s) = ((-(f s.val) : ℝ) : EReal) := by
    pointwise
    rw [hz, EReal.coe_neg]
  have e' := logSig_at (Host.negf z) b h n s _ e
  rw [neg_neg] at e'
  show (if before (ix4 b h n s) = 1#1 then logSig (Host.negf z) (ix4 b h n s) else zeros (ix4 b h n s)) = _
  rw [e', before_at, zeros_at]
  by_cases hs : s.val < n.val
  · rw [if_pos hs, if_pos rfl, if_pos hs]
  · rw [if_neg hs, if_neg (by decide), if_neg hs, EReal.coe_zero]

/-- The sum of those from a key on. -/
theorem cum_at (s : Fin 8192) : cum (stay z) (ix4 b h n s) = ((-(tail f n.val s.val) : ℝ) : EReal) := by
  have key := suffix (A := 2) (B := 8) (C := 8192) (N := 8192) (Nm1 := 8191) rfl (stay z) b h n
    (fun u => if u < n.val then -(sp (f u)) else 0) (fun u => stay_at z b h n f hz u)
    (fun _ : (⟨0, ![]⟩ : Shape).Idx => (broadcastInDim S_ ![] bcast_S_S_ (constant (F := Ideal) S_ .f32 0x00000000#32) : FVec Ideal S_ .f32) (Shape.Idx.first h_S_))
    (fun _ => (by pointwise : (_ : EReal) = 0).trans EReal.coe_zero.symm)
    reduceWindows_S2x8x8192x8192_S2x8x8192x8192_w1s1p0_0_w1s1p0_0_w1s1p0_0_w8192s1p0_8191 (by decide) s
  refine Eq.trans ?_ (key.trans ?_)
  · unfold cum Host.reduceWindowAdd
    generalize stay z = y
    generalize (broadcastInDim S_ ![] bcast_S_S_ (constant (F := Ideal) S_ .f32 0x00000000#32) : FVec Ideal S_ .f32) (Shape.Idx.first h_S_) = i
    show Ideal.hostReduceWindowAdd _ _ _ _ _ y i (ix4 b h n s) = _
    unfold Ideal.hostReduceWindowAdd
    with_reducible rfl
  · refine congrArg (fun r : ℝ => (r : EReal)) ?_
    have hn := n.isLt
    have hs := s.isLt
    rw [← Finset.sum_filter]
    unfold tail
    rw [← Finset.sum_neg_distrib]
    refine Finset.sum_congr (Finset.ext fun u => ?_) fun _ _ => rfl
    simp only [mem_filter, mem_Ico]
    omega

/-- The reference's weight is the real weight. -/
theorem weights_at (s : Fin 8192) : weights z (ix4 b h n s) = ((wt f n.val s.val : ℝ) : EReal) := by
  have e1 := stay_at z b h n f hz s
  have e2 := cum_at z b h n f hz s
  have e3 := logSig_at z b h n s _ (hz s)
  have e4 : Host.exp (addf (logSig z) (subf (cum (stay z)) (stay z))) (ix4 b h n s)
      = Ideal.exp (logSig z (ix4 b h n s) + (cum (stay z) (ix4 b h n s) - stay z (ix4 b h n s))) := by
    generalize logSig z = l
    generalize cum (stay z) = k
    generalize stay z = t
    pointwise
  show (if before (ix4 b h n s) = 1#1 then Host.exp (addf (logSig z) (subf (cum (stay z)) (stay z))) (ix4 b h n s) else zeros (ix4 b h n s)) = _
  rw [e4, e1, e2, e3, before_at, zeros_at]
  unfold wt
  by_cases hs : s.val < n.val
  · rw [if_pos hs, if_pos rfl, if_pos hs, if_pos hs, ← EReal.coe_sub, ← EReal.coe_add, Ideal.exp_coe, tail_succ f n.val s.val hs, sp_neg]
    refine congrArg (fun r : ℝ => ((Real.exp r : ℝ) : EReal)) ?_
    ring
  · rw [if_neg hs, if_neg (by decide), if_neg hs, EReal.coe_zero]

end

/-- Where every score is real, the reference's result is the sum of the values under the real weights. -/
theorem result (q k v : Tall) (zz : Fin 2 → Fin 8 → Fin 8192 → ℕ → ℝ)
    (hz : ∀ b h (n s : Fin 8192), ∑ d : Fin 64, q (ix3 b n (lane h d)) * k (ix3 b s (lane h d)) = ((zz b h n s.val : ℝ) : EReal))
    (b : Fin 2) (n : Fin 8192) (j : Fin 512) :
    out (weights (scores q k)) v (ix3 b n j) = ∑ s : Fin 8192, ((wt (zz b (head j) n) n.val s.val : ℝ) : EReal) * v (ix3 b s j) := by
  rw [out_at]
  refine Finset.sum_congr rfl fun s _ => ?_
  rw [weights_at (scores q k) b (head j) n (zz b (head j) n) (fun u => ?_) s]
  rw [scores_at, ← hz]
  exact Finset.sum_congr rfl fun d _ => by rw [parts_at, parts_at]

end Cert.ReferenceIdeal.Ref
-- ==== Proof.Claims.lean ====
/- The claims about the attention, one after another, from the kernel's array and the reference's entries. -/
module

public import proofs.«01_k».proof.Defs
public import proofs.«01_k».proof.Proof.Array
public import proofs.«01_k».proof.Proof.Ref
public import proofs.«01_k».proof.Proof.Gen.Kernel.Frame
public import proofs.«01_k».proof.Proof.Gen.KernelIdeal.Frame
public import proofs.«01_k».proof.Proof.Gen.Pre_finite_scores
public import Idealize.ShloMosaic.Lib.Quiescent

@[expose] public section

set_option maxRecDepth 3000

noncomputable section

namespace Cert.Claims

open Idealize.ShloMosaic Idealize.ShloMosaic.TcCoe Idealize.SL.Sem Cert.Stick Finset
open Cert.KernelIdeal.Whole (lane head)

local instance : Cert.Pre_finite_scores.Facts := Cert.Pre_finite_scores.Gen.facts

/-- An extended real whose absolute value is below infinity is a real. -/
theorem real_of_abs (x : EReal) (h : (FloatOps.absf (x : Ideal .f32) : Ideal .f32) < (⊤ : EReal)) : ∃ r : ℝ, x = (r : EReal) := by
  have h' : max x (-x) < (⊤ : EReal) := h
  induction x with
  | bot => simp at h'
  | top => simp at h'
  | coe r => exact ⟨r, rfl⟩

/-- One bit and a zero is no one. -/
theorem and_zero : ∀ a : Bool, IntOp.andi (BitVec.ofBool a) (BitVec.ofBool false) ≠ 1#1 := by decide

/-- A zero and one bit is no one. -/
theorem zero_and : ∀ a : Bool, IntOp.andi (BitVec.ofBool false) (BitVec.ofBool a) ≠ 1#1 := by decide

/-- What the precondition says of an entry: both the query and the key are real there. -/
theorem reals (q k v : FVec Ideal Cert.Pre_finite_scores.S2x8192x512 .bf16)
    (h : Cert.Pre_finite_scores.fn (F := Ideal) q k v = (fun _ => 1#1)) (b : Fin 2) (n : Fin 8192) (j : Fin 512) :
    (∃ r : ℝ, q (ix3 b n j) = (r : EReal)) ∧ (∃ r : ℝ, k (ix3 b n j) = (r : EReal)) := by
  have h1 := congrFun h (ix3 b n j)
  pointwise [Cert.Pre_finite_scores.fn] at h1
  have ht : Ideal.ofBits FTy.f32 2139095040#32 = (⊤ : EReal) := by
    simp [Ideal.ofBits, Ideal.ieee]
  rw [ht] at h1
  by_cases ha : (FloatOps.absf (q (ix3 b n j) : Ideal .f32) : Ideal .f32) < (⊤ : EReal)
  · by_cases hb : (FloatOps.absf (k (ix3 b n j) : Ideal .f32) : Ideal .f32) < (⊤ : EReal)
    · exact ⟨real_of_abs _ ha, real_of_abs _ hb⟩
    · exfalso
      rw [decide_eq_false hb] at h1
      exact and_zero _ h1
  · exfalso
    rw [decide_eq_false ha] at h1
    exact zero_and _ h1

/-- Under the precondition every score is a real. -/
theorem scores_real (q k v : FVec Ideal Cert.Pre_finite_scores.S2x8192x512 .bf16)
    (h : Cert.Pre_finite_scores.fn (F := Ideal) q k v = (fun _ => 1#1)) :
    ∃ zz : Fin 2 → Fin 8 → Fin 8192 → ℕ → ℝ, ∀ (b : Fin 2) (h : Fin 8) (n s : Fin 8192),
      ∑ d : Fin 64, q (ix3 b n (lane h d)) * k (ix3 b s (lane h d)) = ((zz b h n s.val : ℝ) : EReal) := by
  choose a ha using fun b n j => (reals q k v h b n j).1
  choose e he using fun b n j => (reals q k v h b n j).2
  refine ⟨fun b h n s => if hs : s < 8192 then ∑ d : Fin 64, a b n (lane h d) * e b ⟨s, hs⟩ (lane h d) else 0, fun b h n s => ?_⟩
  show _ = (((if hs : s.val < 8192 then ∑ d : Fin 64, a b n (lane h d) * e b ⟨s.val, hs⟩ (lane h d) else 0) : ℝ) : EReal)
  rw [dif_pos s.isLt, ← coe_sum]
  exact Finset.sum_congr rfl fun d _ => by rw [ha, he, EReal.coe_mul]

/-- The two named constants stand for what the kernel's bits round. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "log2e" .f32 0x3FB8AA3B#32 (((Real.log 2)⁻¹ : ℝ) : EReal) rfl⟩

/-- The reference runs, its arguments unchanged and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's array and the reference's, from the same arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v27 (F := Ideal) m' c = (Cert.KernelIdeal.Gen.dats m 0 c).arrAt 3 Cert.KernelIdeal.cfg0.N := by
  obtain ⟨zz, hz⟩ := scores_real _ _ _ h
  refine Eq.trans ?_ (Cert.KernelIdeal.Whole.array (m := m) (c := c) (zz := zz) hz).symm
  rw [Cert.ReferenceIdeal.Ref.res_eq, h0, h1, h2]
  funext y
  refine (congrArg _ (eq_ix3 (n0 := 2) (n1 := 8192) (n2 := 512) y)).trans ?_
  refine (Cert.ReferenceIdeal.Ref.result _ _ _ zz hz (y 0) (y 1) (y 2)).trans ?_
  show _ = Cert.KernelIdeal.Whole.target m c zz (y 0) (y 1) (y 2)
  unfold Cert.KernelIdeal.Whole.target
  rw [← Fin.sum_univ_eq_sum_range (fun s => ((wt (zz (y 0) (head (y 2)) (y 1)) (y 1).val s : ℝ) : EReal) * Cert.KernelIdeal.Whole.uu m c (y 0) (y 2) s) 8192]
  refine Finset.sum_congr rfl fun s _ => ?_
  unfold Cert.KernelIdeal.Whole.uu
  rw [dif_pos s.isLt]

/-- The kernel and the reference end with equal results. -/
theorem algebraic : Cert.algebraic_KernelIdeal_ReferenceIdeal_pre_finite_scores := by
  intro m g m' g' hpre harg
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  exact same m m' c (hpre c) (harg c).1 (harg c).2.1 (harg c).2.2

end Cert.Claims
-- ==== Proof.In.lean ====
/- The call that makes queries, keys, values and the scan's input: every row is scaled to unit mean square and multiplied by the
   weights, and the product's columns are parted into the four results. Kernel and reference are the same sum of products at
   every entry. -/
module

public import proofs.«01_k».proof.Defs
public import proofs.«01_k».proof.Proof.Gen.InProjIdeal.Value
public import proofs.«01_k».proof.Proof.Gen.InProjReferenceIdeal
public import proofs.«01_k».proof.Proof.Gen.InProjReferenceIdeal.Run
public import Idealize.ShloMosaic.Lib.Pointwise
public import Idealize.ShloMosaic.Lib.Quiescent
public import Idealize.ShloMosaic.Lib.Pipeline.ValueKit

@[expose] public section

set_option maxRecDepth 3000

noncomputable section

namespace Cert.InProjReferenceIdeal.Rows

open Cert.InProjReferenceIdeal Cert.InProjReferenceIdeal.Gen Idealize.ShloMosaic Idealize.ShloMosaic.TcCoe

/-- The rows scaled to unit mean square, times the gains. -/
def scaled (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- Those rows times the weights. -/
def whole (x : FVec Ideal S16384x1024 .f32) (g : FVec Ideal S1x1024 .f32) (w : FVec Ideal S1024x2048 .bf16) : FVec Ideal S16384x2048 .f32 :=
  Host.dotGeneral dot_S16384x1024_S1024x2048_S16384x2048_1_0_0_1_n_n none (scaled x g) (extf .f32 w bitsLt_bf16_f32)

/-- The reference's result for the queries. -/
def queries (x : FVec Ideal S16384x1024 .f32) (g : FVec Ideal S1x1024 .f32) (w : FVec Ideal S1024x2048 .bf16) : FVec Ideal S16384x512 .bf16 :=
  truncf .bf16 (mulf (extractStridedSlice S16384x512 ![0, 0] (whole x g w) slices_S16384x2048_S16384x512_0_0) (broadcastInDim S16384x512 ![] bcast_S_S16384x512 (constant S_ .f32 0x3E000000#32))) bitsLt_bf16_f32

/-- The reference's result for the keys. -/
def keys (x : FVec Ideal S16384x1024 .f32) (g : FVec Ideal S1x1024 .f32) (w : FVec Ideal S1024x2048 .bf16) : FVec Ideal S16384x512 .bf16 :=
  truncf .bf16 (extractStridedSlice S16384x512 ![0, 512] (whole x g w) slices_S16384x2048_S16384x512_0_512) bitsLt_bf16_f32

/-- The reference's result for the values. -/
def values (x : FVec Ideal S16384x1024 .f32) (g : FVec Ideal S1x1024 .f32) (w : FVec Ideal S1024x2048 .bf16) : FVec Ideal S16384x512 .bf16 :=
  truncf .bf16 (extractStridedSlice S16384x512 ![0, 1024] (whole x g w) slices_S16384x2048_S16384x512_0_1024) bitsLt_bf16_f32

/-- The reference's result for the scan's input. -/
def inputs (x : FVec Ideal S16384x1024 .f32) (g : FVec Ideal S1x1024 .f32) (w : FVec Ideal S1024x2048 .bf16) : FVec Ideal S16384x512 .f32 :=
  extractStridedSlice S16384x512 ![0, 1536] (whole x g w) slices_S16384x2048_S16384x512_0_1536

end Cert.InProjReferenceIdeal.Rows

namespace Cert.InProjIdeal.Rows

open Cert.InProjIdeal Cert.InProjIdeal.Gen Idealize.ShloMosaic Idealize.ShloMosaic.TcCoe
open Cert.InProjReferenceIdeal.Rows

/-- Which block of the rows a grid point takes. -/
theorem idx0 : ∀ t : Fin cfg0.N, win0_0.index t = ![(grid0.coords t 0).val, 0] :=
  (by decide +kernel : ∀ t : Fin grid0.N, win0_0.index t = ![(grid0.coords t 0).val, 0])

/-- Every grid point takes all gains. -/
theorem idx1 : ∀ t : Fin cfg0.N, win0_1.index t = ![0, 0] :=
  (by decide +kernel : ∀ t : Fin grid0.N, win0_1.index t = ![0, 0])

/-- Every grid point takes all weights. -/
theorem idx2 : ∀ t : Fin cfg0.N, win0_2.index t = ![0, 0] :=
  (by decide +kernel : ∀ t : Fin grid0.N, win0_2.index t = ![0, 0])

variable (m : (ℓ : Loc nD τ sig) → Buf (Elt Ideal) ℓ) (c : Dev nD)

/-- The rows, gains and weights as launched. -/
abbrev X : Vec Ideal S16384x1024 .f32 := m ((c : Thread nD τ).loc main_arg0)
abbrev G : Vec Ideal S1x1024 .f32 := m ((c : Thread nD τ).loc main_arg1)
abbrev W : Vec Ideal S1024x2048 .bf16 := m ((c : Thread nD τ).loc main_arg2)

/-- A grid point's rows, at one index. -/
theorem blk0 (t : Fin cfg0.N) (r : Fin 512) (i : Fin 1024) (n : Fin 16384) (hn : n.val = 512 * (grid0.coords t 0).val + r.val) :
    iblk m c 0 t (ix2 r i) = X m c (ix2 n i) := by
  unfold iblk
  blk_simp
  rw [V_main_arg0]
  refine congrArg (m ((c : Thread nD τ).loc main_arg0)) (funext fun a => Fin.ext ?_)
  match a with
  | ⟨0, _⟩ => blk_simp [idx0]; show _ + r.val = n.val; omega
  | ⟨1, _⟩ => blk_simp [idx0]

/-- A grid point's gains are the gains. -/
theorem blk1 (t : Fin cfg0.N) : iblk m c 1 t = G m c := by
  funext y
  unfold iblk
  blk_simp
  rw [V_main_arg1]
  refine congrArg (m ((c : Thread nD τ).loc main_arg1)) (funext fun a => Fin.ext ?_)
  match a with
  | ⟨0, _⟩ => blk_simp [idx1]
  | ⟨1, _⟩ => blk_simp [idx1]

/-- A grid point's weights are the weights. -/
theorem blk2 (t : Fin cfg0.N) : iblk m c 2 t = W m c := by
  funext y
  unfold iblk
  blk_simp
  rw [V_main_arg2]
  refine congrArg (m ((c : Thread nD τ).loc main_arg2)) (funext fun a => Fin.ext ?_)
  match a with
  | ⟨0, _⟩ => blk_simp [idx2]
  | ⟨1, _⟩ => blk_simp [idx2]

/-- The corner of a block is the origin. -/
theorem corner : (![0, 0] : Fin 2 → Nat) = fun _ => 0 := by
  funext a
  match a with
  | ⟨0, _⟩ => rfl
  | ⟨1, _⟩ => rfl

/-- A block's row times the weights is the same row of the reference's product. -/
theorem whole_at (x : FVec Ideal S512x1024 .f32) (y : FVec Ideal S16384x1024 .f32) (g : FVec Ideal S1x1024 .f32) (w : FVec Ideal S1024x2048 .bf16)
    (r : Fin 512) (n : Fin 16384) (h : ∀ i : Fin 1024, x (ix2 r i) = y (ix2 n i)) (j : Fin 2048) :
    k0_pay1 (F := Ideal) x g w (ix2 r j) = whole y g w (ix2 n j) := by
  pointwise [k0_pay1, whole, scaled]
  simp only [h]

/-- Which block of the queries a grid point writes. -/
theorem idx3 : ∀ t : Fin cfg0.N, win0_3.index t = ![(grid0.coords t 0).val, 0] :=
  (by decide +kernel : ∀ t : Fin grid0.N, win0_3.index t = ![(grid0.coords t 0).val, 0])

/-- What a grid point leaves of the queries, from its blocks. -/
theorem left3 (x : Vec Ideal S512x1024 .f32) (g : Vec Ideal S1x1024 .f32) (w : Vec Ideal S1024x2048 .bf16) :
    out0_3 (F := Ideal) x g w = k0_pay2 x g w := by
  unfold out0_3
  rw [View.canon_unit_zero corner, View.ld_unit_zero (S := S512x1024) corner _ x, View.ld_unit_zero (S := S1x1024) corner _ g,
    View.ld_unit_zero (S := S1024x2048) corner _ w]

/-- One entry a grid point writes of the queries. -/
theorem queries_at (x : FVec Ideal S512x1024 .f32) (y : FVec Ideal S16384x1024 .f32) (g : FVec Ideal S1x1024 .f32) (w : FVec Ideal S1024x2048 .bf16)
    (r : Fin 512) (n : Fin 16384) (h : ∀ i : Fin 1024, x (ix2 r i) = y (ix2 n i)) (j : Fin 512) :
    out0_3 (F := Ideal) x g w (ix2 r j) = queries y g w (ix2 n j) := by
  rw [left3]
  pointwise [k0_pay2, queries]
  rw [whole_at x y g w r n h]

/-- The array of the queries. -/
theorem array3 : (dats m 0 c).arrAt 3 cfg0.N = queries (X m c) (G m c) (W m c) := by
  refine (dats m 0 c).arrAt_eq_of_covers 3 _ (by decide +kernel) fun t hf y => ?_
  blk_simp
  rw [after0_3]
  have e0 : (((cfg0.win 3).blk t).view.emb y 0 : Fin 16384).val = 512 * (grid0.coords t 0).val + (y 0).val := by
    blk_simp [idx3]; omega
  have e1 : (((cfg0.win 3).blk t).view.emb y 1 : Fin 512) = (y 1 : Fin 512) := Fin.ext (by
    blk_simp [idx3])
  rw [blk1, blk2]
  refine (congrArg _ (eq_ix2 (n0 := 512) (n1 := 512) y)).trans ?_
  refine (queries_at (iblk m c 0 t) (X m c) (G m c) (W m c) (y 0) (((cfg0.win 3).blk t).view.emb y 0 : Fin 16384)
    (fun i => blk0 m c t (y 0) i _ e0) (y 1)).trans ?_
  rw [← e1]
  exact congrArg _ (eq_ix2 (n0 := 16384) (n1 := 512) (((cfg0.win 3).blk t).view.emb y)).symm

/-- Which block of the keys a grid point writes. -/
theorem idx4 : ∀ t : Fin cfg0.N, win0_4.index t = ![(grid0.coords t 0).val, 0] :=
  (by decide +kernel : ∀ t : Fin grid0.N, win0_4.index t = ![(grid0.coords t 0).val, 0])

/-- What a grid point leaves of the keys, from its blocks. -/
theorem left4 (x : Vec Ideal S512x1024 .f32) (g : Vec Ideal S1x1024 .f32) (w : Vec Ideal S1024x2048 .bf16) :
    out0_4 (F := Ideal) x g w = k0_pay3 x g w := by
  unfold out0_4
  rw [View.canon_unit_zero corner, View.ld_unit_zero (S := S512x1024) corner _ x, View.ld_unit_zero (S := S1x1024) corner _ g,
    View.ld_unit_zero (S := S1024x2048) corner _ w]

/-- One entry a grid point writes of the keys. -/
theorem keys_at (x : FVec Ideal S512x1024 .f32) (y : FVec Ideal S16384x1024 .f32) (g : FVec Ideal S1x1024 .f32) (w : FVec Ideal S1024x2048 .bf16)
    (r : Fin 512) (n : Fin 16384) (h : ∀ i : Fin 1024, x (ix2 r i) = y (ix2 n i)) (j : Fin 512) :
    out0_4 (F := Ideal) x g w (ix2 r j) = keys y g w (ix2 n j) := by
  rw [left4]
  pointwise [k0_pay3, keys]
  rw [whole_at x y g w r n h]

/-- The array of the keys. -/
theorem array4 : (dats m 0 c).arrAt 4 cfg0.N = keys (X m c) (G m c) (W m c) := by
  refine (dats m 0 c).arrAt_eq_of_covers 4 _ (by decide +kernel) fun t hf y => ?_
  blk_simp
  rw [after0_4]
  have e0 : (((cfg0.win 4).blk t).view.emb y 0 : Fin 16384).val = 512 * (grid0.coords t 0).val + (y 0).val := by
    blk_simp [idx4]; omega
  have e1 : (((cfg0.win 4).blk t).view.emb y 1 : Fin 512) = (y 1 : Fin 512) := Fin.ext (by
    blk_simp [idx4])
  rw [blk1, blk2]
  refine (congrArg _ (eq_ix2 (n0 := 512) (n1 := 512) y)).trans ?_
  refine (keys_at (iblk m c 0 t) (X m c) (G m c) (W m c) (y 0) (((cfg0.win 4).blk t).view.emb y 0 : Fin 16384)
    (fun i => blk0 m c t (y 0) i _ e0) (y 1)).trans ?_
  rw [← e1]
  exact congrArg _ (eq_ix2 (n0 := 16384) (n1 := 512) (((cfg0.win 4).blk t).view.emb y)).symm

/-- Which block of the values a grid point writes. -/
theorem idx5 : ∀ t : Fin cfg0.N, win0_5.index t = ![(grid0.coords t 0).val, 0] :=
  (by decide +kernel : ∀ t : Fin grid0.N, win0_5.index t = ![(grid0.coords t 0).val, 0])

/-- What a grid point leaves of the values, from its blocks. -/
theorem left5 (x : Vec Ideal S512x1024 .f32) (g : Vec Ideal S1x1024 .f32) (w : Vec Ideal S1024x2048 .bf16) :
    out0_5 (F := Ideal) x g w = k0_pay4 x g w := by
  unfold out0_5
  rw [View.canon_unit_zero corner, View.ld_unit_zero (S := S512x1024) corner _ x, View.ld_unit_zero (S := S1x1024) corner _ g,
    View.ld_unit_zero (S := S1024x2048) corner _ w]

/-- One entry a grid point writes of the values. -/
theorem values_at (x : FVec Ideal S512x1024 .f32) (y : FVec Ideal S16384x1024 .f32) (g : FVec Ideal S1x1024 .f32) (w : FVec Ideal S1024x2048 .bf16)
    (r : Fin 512) (n : Fin 16384) (h : ∀ i : Fin 1024, x (ix2 r i) = y (ix2 n i)) (j : Fin 512) :
    out0_5 (F := Ideal) x g w (ix2 r j) = values y g w (ix2 n j) := by
  rw [left5]
  pointwise [k0_pay4, values]
  rw [whole_at x y g w r n h]

/-- The array of the values. -/
theorem array5 : (dats m 0 c).arrAt 5 cfg0.N = values (X m c) (G m c) (W m c) := by
  refine (dats m 0 c).arrAt_eq_of_covers 5 _ (by decide +kernel) fun t hf y => ?_
  blk_simp
  rw [after0_5]
  have e0 : (((cfg0.win 5).blk t).view.emb y 0 : Fin 16384).val = 512 * (grid0.coords t 0).val + (y 0).val := by
    blk_simp [idx5]; omega
  have e1 : (((cfg0.win 5).blk t).view.emb y 1 : Fin 512) = (y 1 : Fin 512) := Fin.ext (by
    blk_simp [idx5])
  rw [blk1, blk2]
  refine (congrArg _ (eq_ix2 (n0 := 512) (n1 := 512) y)).trans ?_
  refine (values_at (iblk m c 0 t) (X m c) (G m c) (W m c) (y 0) (((cfg0.win 5).blk t).view.emb y 0 : Fin 16384)
    (fun i => blk0 m c t (y 0) i _ e0) (y 1)).trans ?_
  rw [← e1]
  exact congrArg _ (eq_ix2 (n0 := 16384) (n1 := 512) (((cfg0.win 5).blk t).view.emb y)).symm

/-- Which block of the scan's input a grid point writes. -/
theorem idx6 : ∀ t : Fin cfg0.N, win0_6.index t = ![(grid0.coords t 0).val, 0] :=
  (by decide +kernel : ∀ t : Fin grid0.N, win0_6.index t = ![(grid0.coords t 0).val, 0])

/-- What a grid point leaves of the scan's input, from its blocks. -/
theorem left6 (x : Vec Ideal S512x1024 .f32) (g : Vec Ideal S1x1024 .f32) (w : Vec Ideal S1024x2048 .bf16) :
    out0_6 (F := Ideal) x g w = k0_pay5 x g w := by
  unfold out0_6
  rw [View.canon_unit_zero corner, View.ld_unit_zero (S := S512x1024) corner _ x, View.ld_unit_zero (S := S1x1024) corner _ g,
    View.ld_unit_zero (S := S1024x2048) corner _ w]

/-- One entry a grid point writes of the scan's input. -/
theorem inputs_at (x : FVec Ideal S512x1024 .f32) (y : FVec Ideal S16384x1024 .f32) (g : FVec Ideal S1x1024 .f32) (w : FVec Ideal S1024x2048 .bf16)
    (r : Fin 512) (n : Fin 16384) (h : ∀ i : Fin 1024, x (ix2 r i) = y (ix2 n i)) (j : Fin 512) :
    out0_6 (F := Ideal) x g w (ix2 r j) = inputs y g w (ix2 n j) := by
  rw [left6]
  pointwise [k0_pay5, inputs]
  rw [whole_at x y g w r n h]

/-- The array of the scan's input. -/
theorem array6 : (dats m 0 c).arrAt 6 cfg0.N = inputs (X m c) (G m c) (W m c) := by
  refine (dats m 0 c).arrAt_eq_of_covers 6 _ (by decide +kernel) fun t hf y => ?_
  blk_simp
  rw [after0_6]
  have e0 : (((cfg0.win 6).blk t).view.emb y 0 : Fin 16384).val = 512 * (grid0.coords t 0).val + (y 0).val := by
    blk_simp [idx6]; omega
  have e1 : (((cfg0.win 6).blk t).view.emb y 1 : Fin 512) = (y 1 : Fin 512) := Fin.ext (by
    blk_simp [idx6])
  rw [blk1, blk2]
  refine (congrArg _ (eq_ix2 (n0 := 512) (n1 := 512) y)).trans ?_
  refine (inputs_at (iblk m c 0 t) (X m c) (G m c) (W m c) (y 0) (((cfg0.win 6).blk t).view.emb y 0 : Fin 16384)
    (fun i => blk0 m c t (y 0) i _ e0) (y 1)).trans ?_
  rw [← e1]
  exact congrArg _ (eq_ix2 (n0 := 16384) (n1 := 512) (((cfg0.win 6).blk t).view.emb y)).symm

end Cert.InProjIdeal.Rows

namespace Cert.Claims

open Idealize.ShloMosaic Idealize.ShloMosaic.TcCoe Idealize.SL.Sem

/-- The reference for queries, keys, values and the scan's input runs, its arguments unchanged and every counter at zero. -/
theorem frame_in_reference : Cert.quiescent_InProjReferenceIdeal := fun m ρ _ =>
  (θ_run Cert.InProjReferenceIdeal.defs _ _).mono (fun r h => ⟨fun c => (h c).2.2.2.2, Idealize.ShloMosaic.sem_eq_zero_of_no_sems (by decide) r.2⟩)
    (Cert.InProjReferenceIdeal.Value.run (F := Ideal) m ρ)

/-- The kernel and the reference end with equal queries, keys, values and scan's input. -/
theorem algebraic_in : Cert.algebraic_InProjIdeal_InProjReferenceIdeal := by
  intro m g m' g' hpre harg
  refine ⟨_, _, _, _, Cert.InProjIdeal.Value.run_blocks (F := Ideal) m g, ?_⟩
  refine (θ_run Cert.InProjReferenceIdeal.defs _ _).mono (fun r h c => ⟨(h c).1.trans ?_, (h c).2.1.trans ?_, (h c).2.2.1.trans ?_, (h c).2.2.2.1.trans ?_, (h c).2.2.2.2⟩)
    (Cert.InProjReferenceIdeal.Value.run (F := Ideal) m' g')
  · rw [(harg c).1, (harg c).2.1, (harg c).2.2]
    exact (Cert.InProjIdeal.Rows.array3 m c).symm
  · rw [(harg c).1, (harg c).2.1, (harg c).2.2]
    exact (Cert.InProjIdeal.Rows.array4 m c).symm
  · rw [(harg c).1, (harg c).2.1, (harg c).2.2]
    exact (Cert.InProjIdeal.Rows.array5 m c).symm
  · rw [(harg c).1, (harg c).2.1, (harg c).2.2]
    exact (Cert.InProjIdeal.Rows.array6 m c).symm

end Cert.Claims

end
-- ==== Proof.Mem.lean ====
/- The call that turns the memory into keys and values: every row is scaled to unit mean square and multiplied by the weights.
   Kernel and reference are the same sum of products at every entry. -/
module

public import proofs.«01_k».proof.Defs
public import proofs.«01_k».proof.Proof.Gen.MemKvIdeal.Value
public import proofs.«01_k».proof.Proof.Gen.MemKvReferenceIdeal
public import proofs.«01_k».proof.Proof.Gen.MemKvReferenceIdeal.Run
public import Idealize.ShloMosaic.Lib.Pointwise
public import Idealize.ShloMosaic.Lib.Quiescent

@[expose] public section

set_option maxRecDepth 3000

noncomputable section

namespace Cert.MemKvReferenceIdeal.Rows

open Cert.MemKvReferenceIdeal Cert.MemKvReferenceIdeal.Gen Idealize.ShloMosaic Idealize.ShloMosaic.TcCoe

/-- The reference's result as a function of the memory, the gains and the weights. -/
def res (x : FVec Ideal S512x1024 .f32) (g : FVec Ideal S1x1024 .f32) (w : FVec Ideal S1024x2048 .bf16) : FVec Ideal S512x2048 .bf16 :=
  truncf .bf16 (Host.dotGeneral dot_S512x1024_S1024x2048_S512x2048_1_0_0_1_n_n none (mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 g)) (extf .f32 w bitsLt_bf16_f32)) bitsLt_bf16_f32

end Cert.MemKvReferenceIdeal.Rows

namespace Cert.Claims

open Idealize.ShloMosaic Idealize.ShloMosaic.TcCoe Idealize.SL.Sem

/-- At every entry the kernel's value and the reference's are the same sum of products. -/
theorem mem_at (x : FVec Ideal Cert.MemKvIdeal.S512x1024 .f32) (g : FVec Ideal Cert.MemKvIdeal.S1x1024 .f32)
    (w : FVec Ideal Cert.MemKvIdeal.S1024x2048 .bf16) (r : Fin 512) (j : Fin 2048) :
    Cert.MemKvReferenceIdeal.Rows.res x g w (ix2 r j) = Cert.MemKvIdeal.Gen.k0_pay1 (F := Ideal) x g w (ix2 r j) := by
  pointwise [Cert.MemKvReferenceIdeal.Rows.res, Cert.MemKvIdeal.Gen.k0_pay1]

/-- The reference for the memory's keys and values runs, its arguments unchanged and every counter at zero. -/
theorem frame_mem_reference : Cert.quiescent_MemKvReferenceIdeal := fun m ρ _ =>
  (θ_run Cert.MemKvReferenceIdeal.defs _ _).mono (fun r h => ⟨fun c => (h c).2, Idealize.ShloMosaic.sem_eq_zero_of_no_sems (by decide) r.2⟩)
    (Cert.MemKvReferenceIdeal.Value.run (F := Ideal) m ρ)

/-- The kernel and the reference end with equal keys and values of the memory. -/
theorem algebraic_mem : Cert.algebraic_MemKvIdeal_MemKvReferenceIdeal := by
  intro m g m' g' hpre harg
  refine ⟨_, Cert.MemKvIdeal.Value.run (F := Ideal) m g, ?_⟩
  refine (θ_run Cert.MemKvReferenceIdeal.defs _ _).mono (fun r h c => ⟨(h c).1.trans ?_, (h c).2⟩) (Cert.MemKvReferenceIdeal.Value.run (F := Ideal) m' g')
  rw [(harg c).1, (harg c).2.1, (harg c).2.2]
  funext y
  refine (congrArg _ (eq_ix2 (n0 := 512) (n1 := 2048) y)).trans ?_
  exact (mem_at _ _ _ (y 0) (y 1)).trans (congrArg _ (eq_ix2 (n0 := 512) (n1 := 2048) y).symm)

end Cert.Claims

end
-- ==== Proof.MixRef.lean ====
/- The call after the attention and the scan, read entry by entry: the reference's steps as whole arrays, and the cross-attention
   of one head as a function of one row. -/
module

public import proofs.«01_k».proof.Proof.Gen.MixReferenceIdeal
public import proofs.«01_k».proof.Proof.Gen.MixReferenceIdeal.Run
public import Idealize.ShloMosaic.Lib.Pointwise

@[expose] public section

set_option maxRecDepth 3000

noncomputable section

namespace Cert.Rows

open Idealize.ShloMosaic

/-- A maximum over the last of four axes, at an index. -/
theorem top_at (A B C N : ℕ) (x : FVec Ideal ⟨4, ![A, B, C, N]⟩ .f32) (init : FVec Ideal ⟨0, ![]⟩ .f32)
    (h : (⟨4, ![A, B, C, N]⟩ : Shape).ReducesTo [3] ⟨3, ![A, B, C]⟩) (hu : 0 < (⟨0, ![]⟩ : Shape).numel) (a : Fin A) (b : Fin B) (c : Fin C) :
    Host.reduce FloatOps.maximumf x init h hu (ix3 a b c)
      = Finset.univ.fold max (init (Shape.Idx.first hu)) fun k : Fin N => x (ix4 a b c k) := by
  simp only [pointwise]

/-- A row's scores, each the scaled product of the query with a key. -/
def score {M D : ℕ} (q : Fin D → EReal) (k : Fin M → Fin D → EReal) (i : Fin M) : EReal :=
  (∑ d, q d * k i d) * Ideal.ofBits FTy.f32 1031798784#32

/-- The exponentials of a row's scores less the greatest. -/
def weight {M : ℕ} (s : Fin M → EReal) (i : Fin M) : EReal :=
  Ideal.exp (s i - Finset.univ.fold max (Ideal.ofBits FTy.f32 4286578688#32) s)

/-- A row's cross-attention: the values summed under the normed weights. -/
def attend {M D : ℕ} (q : Fin D → EReal) (k v : Fin M → Fin D → EReal) (j : Fin D) : EReal :=
  ∑ i, Ideal.div (weight (score q k) i) (∑ l, weight (score q k) l) * v i j

end Cert.Rows

namespace Cert.MixReferenceIdeal.Rows

open Cert.MixReferenceIdeal Cert.MixReferenceIdeal.Gen Idealize.ShloMosaic Idealize.ShloMosaic.TcCoe Cert.Rows

abbrev Half := FVec Ideal S2x8192x512 .f32
abbrev Full := FVec Ideal S2x8192x1024 .f32
abbrev Pairs := FVec Ideal S2x4x8192x256 .f32
abbrev Square := FVec Ideal S1024x1024 .bf16
abbrev Memory := FVec Ideal S2x256x2048 .bf16

/-- Rows of 512 scaled to unit mean square, times the gains. -/
def scaledHalf (v : Half) (g : FVec Ideal S1x512 .f32) : Half :=
  mulf (mulf v (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf v v) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![1, 2] bcast_S1x512_S1x1x512_1_2 g))

/-- Rows of 1024 scaled to unit mean square, times the gains. -/
def scaledFull (v : Full) (g : FVec Ideal S1x1024 .f32) : Full :=
  mulf (mulf v (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v v) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![1, 2] bcast_S1x1024_S1x1x1024_1_2 g))

/-- The scan's rows times their gates. -/
def gated (y : Half) (w : FVec Ideal S512x512 .bf16) (b : FVec Ideal S1x512 .f32) : Half :=
  mulf y (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (addf (Host.dotGeneral dot_S2x8192x512_S512x512_S2x8192x512_2_0_01_1_n_n none y (extf .f32 w bitsLt_bf16_f32)) (broadcastInDim S2x8192x512 ![0, 1, 2] bcast_S1x1x512_S2x8192x512_0_1_2 (broadcastInDim S1x1x512 ![1, 2] bcast_S1x512_S1x1x512_1_2 b)))))))

/-- Rows of 1024 times a square of weights. -/
def times (v : Full) (w : Square) : Full :=
  Host.dotGeneral dot_S2x8192x1024_S1024x1024_S2x8192x1024_2_0_01_1_n_n none v (extf .f32 w bitsLt_bf16_f32)

/-- Two halves side by side. -/
def beside (a y : Half) : Full := concatenate S2x8192x1024 2 [⟨S2x8192x512, a⟩, ⟨S2x8192x512, y⟩] concatenates_S2x8192x512_S2x8192x512_S2x8192x1024_d2

/-- The memory's columns parted into keys and values and heads. -/
def cut (kv : Memory) : FVec Ideal S2x256x2x4x256 .f32 :=
  shapeCast _ (extf .f32 kv bitsLt_bf16_f32) shapeCasts_S2x256x2048_S2x256x2x4x256

/-- The memory's keys. -/
def mkeys (kv : Memory) : FVec Ideal S2x256x4x256 .f32 :=
  shapeCast _ (extractStridedSlice S2x256x1x4x256 ![0, 0, 0, 0, 0] (cut kv) slices_S2x256x2x4x256_S2x256x1x4x256_0_0_0_0_0) shapeCasts_S2x256x1x4x256_S2x256x4x256

/-- The memory's values. -/
def mvalues (kv : Memory) : FVec Ideal S2x256x4x256 .f32 :=
  shapeCast _ (extractStridedSlice S2x256x1x4x256 ![0, 0, 1, 0, 0] (cut kv) slices_S2x256x2x4x256_S2x256x1x4x256_0_0_1_0_0) shapeCasts_S2x256x1x4x256_S2x256x4x256

/-- Every query's score at every row of the memory. -/
def scores (q : Full) (kv : Memory) : Pairs :=
  mulf (Host.dotGeneral dot_S2x8192x4x256_S2x256x4x256_S2x4x8192x256_3_3_1_1_02_02 none (shapeCast _ q shapeCasts_S2x8192x1024_S2x8192x4x256) (mkeys kv)) (broadcastInDim S2x4x8192x256 ![] bcast_S_S2x4x8192x256 (constant S_ .f32 0x3D800000#32))

/-- The greatest score of a row. -/
def tops (s : Pairs) : FVec Ideal S2x4x8192 .f32 :=
  Host.reduce FloatOps.maximumf s (constant S_ .f32 0xFF800000#32) reducesTo_S2x4x8192x256_S2x4x8192_d3 h_S_

/-- Minus infinity everywhere. -/
def low : FVec Ideal S2x4x8192 .f32 := broadcastInDim S2x4x8192 ![] bcast_S_S2x4x8192 (constant S_ .f32 0xFF800000#32)

/-- A number for every row, at every entry of the row. -/
def wide (t : FVec Ideal S2x4x8192 .f32) : Pairs :=
  broadcastInDim S2x4x8192x256 ![0, 1, 2, 3] bcast_S2x4x8192x1_S2x4x8192x256_0_1_2_3 (broadcastInDim S2x4x8192x1 ![0, 1, 2] bcast_S2x4x8192_S2x4x8192x1_0_1_2 t)

/-- The exponentials of the scores less the greatest. -/
def exps (s : Pairs) : Pairs := Host.exp (subf s (wide (maximumf low (tops s))))

/-- Those over their sum. -/
def normed (e : Pairs) : Pairs :=
  Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_)))

/-- The memory's values summed under the weights, the heads side by side. -/
def gathered (p : Pairs) (kv : Memory) : Full :=
  shapeCast _ (transpose S2x8192x4x256 [0, 3, 1, 2] (Host.dotGeneral dot_S2x256x4x256_S2x4x8192x256_S2x4x256x8192_1_3_3_2_02_01 none (mvalues kv) p) transposes_S2x4x256x8192_S2x8192x4x256_0_3_1_2) shapeCasts_S2x8192x4x256_S2x8192x1024

/-- The rows after the first sum. -/
def first (x : Full) (a y : Half) (ga gs : FVec Ideal S1x512 .f32) (wg : FVec Ideal S512x512 .bf16) (bg : FVec Ideal S1x512 .f32) (wo : Square) : Full :=
  addf x (times (beside (scaledHalf a ga) (scaledHalf (gated y wg bg) gs)) wo)

/-- The rows after the second sum. -/
def second (h : Full) (kv : Memory) (gx : FVec Ideal S1x1024 .f32) (wq wx : Square) : Full :=
  addf h (times (gathered (normed (exps (scores (times (scaledFull h gx) wq) kv))) kv) wx)

/-- The reference's first result. -/
theorem res_eq (m : (ℓ : Loc nD τ sig) → Buf (Elt Ideal) ℓ) (c : Dev nD) :
    Cert.MixReferenceIdeal.Value.res_main_v83 (F := Ideal) (StableHlo.launchContents m c)
      = second (first (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)))
        (m ((c.tc : Thread nD τ).loc main_arg3)) (m ((c.tc : Thread nD τ).loc main_arg9)) (m ((c.tc : Thread nD τ).loc main_arg10))
        (m ((c.tc : Thread nD τ).loc main_arg11)) := rfl

/-- The greatest score of a row, at an index. -/
theorem tops_at (s : Pairs) (b : Fin 2) (h : Fin 4) (n : Fin 8192) :
    tops s (ix3 b h n) = Finset.univ.fold max (Ideal.ofBits FTy.f32 4286578688#32) fun i : Fin 256 => s (ix4 b h n i) :=
  top_at 2 4 8192 256 s _ _ _ b h n

/-- Minus infinity, at an index. -/
theorem low_at (b : Fin 2) (h : Fin 4) (n : Fin 8192) : low (ix3 b h n) = Ideal.ofBits FTy.f32 4286578688#32 := by
  pointwise [low]

/-- A row's number, at an index. -/
theorem wide_at (t : FVec Ideal S2x4x8192 .f32) (b : Fin 2) (h : Fin 4) (n : Fin 8192) (i : Fin 256) :
    wide t (ix4 b h n i) = t (ix3 b h n) := by
  pointwise [wide]

/-- An exponential of a difference, at an index. -/
theorem exp_sub_at (s t : Pairs) (b : Fin 2) (h : Fin 4) (n : Fin 8192) (i : Fin 256) :
    Host.exp (subf s t) (ix4 b h n i) = Ideal.exp (s (ix4 b h n i) - t (ix4 b h n i)) := by
  pointwise

/-- The greater of two, at an index. -/
theorem max_at (s t : FVec Ideal S2x4x8192 .f32) (b : Fin 2) (h : Fin 4) (n : Fin 8192) :
    maximumf s t (ix3 b h n) = max (s (ix3 b h n)) (t (ix3 b h n)) := by
  pointwise

/-- A maximum that starts at a number is no less than the number. -/
theorem max_fold (z : EReal) (s : Fin 256 → EReal) : max z (Finset.univ.fold max z s) = Finset.univ.fold max z s :=
  max_eq_right ((Finset.le_fold_max _).2 (Or.inl le_rfl))

/-- The exponentials, at an index. -/
theorem exps_at (s : Pairs) (b : Fin 2) (h : Fin 4) (n : Fin 8192) (i : Fin 256) :
    exps s (ix4 b h n i) = weight (fun l : Fin 256 => s (ix4 b h n l)) i := by
  unfold exps weight
  rw [exp_sub_at, wide_at, max_at, low_at, tops_at, max_fold]

/-- A key of a head, at an index. -/
theorem mkeys_at (kv : Memory) (b : Fin 2) (i : Fin 256) (h : Fin 4) (d : Fin 256) :
    mkeys kv (ix4 b i h d) = kv (ix3 b i ⟨h.val * 256 + d.val, by omega⟩) := by
  pointwise [mkeys, cut]

/-- A value of a head, at an index. -/
theorem mvalues_at (kv : Memory) (b : Fin 2) (i : Fin 256) (h : Fin 4) (d : Fin 256) :
    mvalues kv (ix4 b i h d) = kv (ix3 b i ⟨1024 + h.val * 256 + d.val, by omega⟩) := by
  pointwise [mvalues, cut]

/-- A score, at an index. -/
theorem scores_at (q : Full) (kv : Memory) (b : Fin 2) (h : Fin 4) (n : Fin 8192) (i : Fin 256) :
    scores q kv (ix4 b h n i) = score (fun d : Fin 256 => q (ix3 b n ⟨h.val * 256 + d.val, by omega⟩))
      (fun i d : Fin 256 => kv (ix3 b i ⟨h.val * 256 + d.val, by omega⟩)) i := by
  pointwise [scores]
  unfold score
  simp only [mkeys_at]

/-- The weights over their sum, at an index. -/
theorem normed_at (p : Pairs) (b : Fin 2) (h : Fin 4) (n : Fin 8192) (i : Fin 256) :
    normed p (ix4 b h n i) = Ideal.div (p (ix4 b h n i)) (∑ l : Fin 256, p (ix4 b h n l)) := by
  pointwise [normed]

/-- The cross-attention at an entry: that of the entry's row and head. -/
theorem gathered_at (q : Full) (kv : Memory) (b : Fin 2) (n : Fin 8192) (h : Fin 4) (d : Fin 256) (j : Fin 1024) (hj : j.val = h.val * 256 + d.val) :
    gathered (normed (exps (scores q kv))) kv (ix3 b n j) = attend (fun d : Fin 256 => q (ix3 b n ⟨h.val * 256 + d.val, by omega⟩))
      (fun i d : Fin 256 => kv (ix3 b i ⟨h.val * 256 + d.val, by omega⟩)) (fun i d : Fin 256 => kv (ix3 b i ⟨1024 + h.val * 256 + d.val, by omega⟩)) d := by
  pointwise [gathered]
  have eh : (⟨j.val / 256, by omega⟩ : Fin 4) = h := Fin.ext (by show j.val / 256 = h.val; omega)
  have ed : (⟨j.val % 256, by omega⟩ : Fin 256) = d := Fin.ext (by show j.val % 256 = d.val; omega)
  unfold attend
  refine Finset.sum_congr rfl fun i _ => ?_
  rw [eh, ed, mvalues_at, normed_at, mul_comm]
  simp only [exps_at, scores_at]

end Cert.MixReferenceIdeal.Rows

end
-- ==== Proof.MixPay.lean ====
/- The call after the attention and the scan: each value of the kernel's body at one index is the reference's at the same row. -/
module

public import proofs.«01_k».proof.Proof.MixRef
public import proofs.«01_k».proof.Proof.Gen.MixIdeal.Frame

@[expose] public section

set_option maxRecDepth 3000

noncomputable section

namespace Cert.MixIdeal.Rows

open Cert.MixIdeal Cert.MixIdeal.Gen Idealize.ShloMosaic Idealize.ShloMosaic.TcCoe Cert.Rows
open Cert.MixReferenceIdeal.Rows (Half Full Square Memory scaledHalf scaledFull gated times beside first second gathered normed exps scores)

section
variable (b : Fin 2) (n : Fin 8192) (r : Fin 512)

/-- The attention's row scaled to unit mean square. -/
theorem pay4_at (x : FVec Ideal S1x512x512 .f32) (g : FVec Ideal S1x512 .f32) (X : Half) (h : ∀ i : Fin 512, x (ix3 0 r i) = X (ix3 b n i)) (j : Fin 512) :
    k0_pay4 (F := Ideal) x g (ix2 r j) = scaledHalf X g (ix3 b n j) := by
  pointwise [k0_pay4, scaledHalf]
  simp only [h]

/-- The scan's row under its gates. -/
theorem pay5_at (x : FVec Ideal S1x512x512 .f32) (w : FVec Ideal S512x512 .bf16) (g : FVec Ideal S1x512 .f32) (X : Half)
    (h : ∀ i : Fin 512, x (ix3 0 r i) = X (ix3 b n i)) (j : Fin 512) :
    k0_pay5 (F := Ideal) x w g (ix2 r j) = gated X w g (ix3 b n j) := by
  pointwise [k0_pay5, gated]
  simp only [h, zero_sub]

/-- The sum of that row's squares. -/
theorem pay6_at (x : FVec Ideal S1x512x512 .f32) (w : FVec Ideal S512x512 .bf16) (g : FVec Ideal S1x512 .f32) (X : Half)
    (h : ∀ i : Fin 512, x (ix3 0 r i) = X (ix3 b n i)) :
    k0_pay6 (F := Ideal) x w g (ix2 r 0) = ∑ i : Fin 512, gated X w g (ix3 b n i) * gated X w g (ix3 b n i) := by
  pointwise [k0_pay6]
  simp only [pay5_at b n r x w g X h]

/-- The row after the first sum. -/
theorem pay7_at (p : FVec Ideal S512x512 .bf16) (u : FVec Ideal S512x512 .f32) (gs : FVec Ideal S1x512 .f32) (q : FVec Ideal S512x1 .f32)
    (x : FVec Ideal S1x512x1024 .f32) (wo : FVec Ideal S1024x1024 .bf16) (X : Full) (A U : Half) (ga : FVec Ideal S1x512 .f32)
    (hx : ∀ i : Fin 1024, x (ix3 0 r i) = X (ix3 b n i)) (hp : ∀ i : Fin 512, p (ix2 r i) = scaledHalf A ga (ix3 b n i))
    (hu : ∀ i : Fin 512, u (ix2 r i) = U (ix3 b n i)) (hq : q (ix2 r 0) = ∑ i : Fin 512, U (ix3 b n i) * U (ix3 b n i)) (j : Fin 1024) :
    k0_pay7 (F := Ideal) p u gs q x wo (ix2 r j) = addf X (times (beside (scaledHalf A ga) (scaledHalf U gs)) wo) (ix3 b n j) := by
  have e : ∀ i : Fin 512, scaledHalf U gs (ix3 b n i) = U (ix3 b n i) *
      Ideal.rsqrt (Ideal.div (∑ i : Fin 512, U (ix3 b n i) * U (ix3 b n i)) (Ideal.ofBits FTy.f32 1140850688#32) + Ideal.ofBits FTy.f32 897988541#32) * gs (ix2 0 i) := by
    intro i
    pointwise [scaledHalf]
  pointwise [k0_pay7, times, beside]
  simp only [hx, hp, hu, hq, e]

/-- The query row of the cross-attention. -/
theorem pay8_at (p : FVec Ideal S512x512 .bf16) (u : FVec Ideal S512x512 .f32) (gs : FVec Ideal S1x512 .f32) (q : FVec Ideal S512x1 .f32)
    (x : FVec Ideal S1x512x1024 .f32) (wo : FVec Ideal S1024x1024 .bf16) (gx : FVec Ideal S1x1024 .f32) (wq : FVec Ideal S1024x1024 .bf16) (H : Full)
    (hH : ∀ i : Fin 1024, k0_pay7 (F := Ideal) p u gs q x wo (ix2 r i) = H (ix3 b n i)) (j : Fin 1024) :
    k0_pay8 (F := Ideal) p u gs q x wo gx wq (ix2 r j) = times (scaledFull H gx) wq (ix3 b n j) := by
  have e : ∀ i : Fin 1024, scaledFull H gx (ix3 b n i) = H (ix3 b n i) *
      Ideal.rsqrt (Ideal.div (∑ i : Fin 1024, H (ix3 b n i) * H (ix3 b n i)) (Ideal.ofBits FTy.f32 1149239296#32) + Ideal.ofBits FTy.f32 897988541#32) * gx (ix2 0 i) := by
    intro i
    pointwise [scaledFull]
  pointwise [k0_pay8, times]
  simp only [hH, e]

end

/-- The first head of a row. -/
theorem pay12_at (k v : FVec Ideal S256x256 .bf16) (q : FVec Ideal S512x256 .bf16) (r : Fin 512) (j : Fin 256) :
    k0_pay12 (F := Ideal) k v q (ix2 r j) = attend (fun d : Fin 256 => q (ix2 r d)) (fun i d : Fin 256 => k (ix2 i d)) (fun i d : Fin 256 => v (ix2 i d)) j := by
  pointwise [k0_pay12]
  rfl

/-- The second head of a row. -/
theorem pay13_at (q : FVec Ideal S512x1024 .f32) (k v : FVec Ideal S1x256x256 .bf16) (r : Fin 512) (j : Fin 256) :
    k0_pay13 (F := Ideal) q k v (ix2 r j) = attend (fun d : Fin 256 => q (ix2 r ⟨256 + d.val, by omega⟩)) (fun i d : Fin 256 => k (ix3 0 i d)) (fun i d : Fin 256 => v (ix3 0 i d)) j := by
  pointwise [k0_pay13]
  rfl

/-- All four heads of a row side by side. -/
theorem pay15_at (q : FVec Ideal S512x1024 .f32) (o0 o1 : FVec Ideal S512x256 .bf16) (k2 : FVec Ideal S256x256 .bf16) (v2 k3 v3 : FVec Ideal S1x256x256 .bf16)
    (r : Fin 512) (j : Fin 1024) :
    k0_pay15 (F := Ideal) q o0 o1 k2 v2 k3 v3 (ix2 r j) =
      if h : j.val < 256 then o0 (ix2 r ⟨j.val, h⟩)
      else if h' : j.val - 256 < 256 then o1 (ix2 r ⟨j.val - 256, h'⟩)
      else if h'' : j.val - 256 - 256 < 256 then
        attend (fun d : Fin 256 => q (ix2 r ⟨512 + d.val, by omega⟩)) (fun i d : Fin 256 => k2 (ix2 i d)) (fun i d : Fin 256 => v2 (ix3 0 i d)) ⟨j.val - 256 - 256, h''⟩
      else
        attend (fun d : Fin 256 => q (ix2 r ⟨768 + d.val, by omega⟩)) (fun i d : Fin 256 => k3 (ix3 0 i d)) (fun i d : Fin 256 => v3 (ix3 0 i d)) ⟨j.val - 256 - 256 - 256, by omega⟩ := by
  pointwise [k0_pay15]
  rfl

/-- The first head's queries. -/
theorem pay11_at (p : FVec Ideal S512x512 .bf16) (u : FVec Ideal S512x512 .f32) (gs : FVec Ideal S1x512 .f32) (q : FVec Ideal S512x1 .f32)
    (x : FVec Ideal S1x512x1024 .f32) (wo : FVec Ideal S1024x1024 .bf16) (gx : FVec Ideal S1x1024 .f32) (wq : FVec Ideal S1024x1024 .bf16) (r : Fin 512) (d : Fin 256) :
    k0_pay11 (F := Ideal) p u gs q x wo gx wq (ix2 r d) = k0_pay8 (F := Ideal) p u gs q x wo gx wq (ix2 r ⟨d.val, by omega⟩) := by
  pointwise [k0_pay11]

/-- The first head's keys. -/
theorem pay9_at (k : FVec Ideal S1x256x256 .bf16) (i d : Fin 256) : k0_pay9 (F := Ideal) k (ix2 i d) = k (ix3 0 i d) := by
  pointwise [k0_pay9]

/-- The first head's values. -/
theorem pay10_at (k : FVec Ideal S1x256x256 .bf16) (i d : Fin 256) : k0_pay10 (F := Ideal) k (ix2 i d) = k (ix3 0 i d) := by
  pointwise [k0_pay10]

/-- The third head's keys. -/
theorem pay14_at (k : FVec Ideal S1x256x256 .bf16) (i d : Fin 256) : k0_pay14 (F := Ideal) k (ix2 i d) = k (ix3 0 i d) := by
  pointwise [k0_pay14]

/-- A head of a row, its parts given by the reference's arrays. -/
theorem head_at (q : Full) (kv : Memory) (b : Fin 2) (n : Fin 8192) (h : Fin 4) (d : Fin 256) (j : Fin 1024) (hj : j.val = h.val * 256 + d.val)
    (f : Fin 256 → EReal) (k v : Fin 256 → Fin 256 → EReal) (hf : ∀ d : Fin 256, f d = q (ix3 b n ⟨h.val * 256 + d.val, by omega⟩))
    (hk : ∀ i d : Fin 256, k i d = kv (ix3 b i ⟨h.val * 256 + d.val, by omega⟩)) (hv : ∀ i d : Fin 256, v i d = kv (ix3 b i ⟨1024 + h.val * 256 + d.val, by omega⟩)) :
    attend f k v d = gathered (normed (exps (scores q kv))) kv (ix3 b n j) := by
  rw [Cert.MixReferenceIdeal.Rows.gathered_at q kv b n h d j hj]
  obtain rfl : f = _ := funext hf
  obtain rfl : k = _ := funext fun i => funext (hk i)
  obtain rfl : v = _ := funext fun i => funext (hv i)
  rfl

/-- The cross-attention's row, all heads, is the reference's. -/
theorem heads_at (p : FVec Ideal S512x512 .bf16) (u : FVec Ideal S512x512 .f32) (gs : FVec Ideal S1x512 .f32) (s : FVec Ideal S512x1 .f32)
    (x : FVec Ideal S1x512x1024 .f32) (wo : FVec Ideal S1024x1024 .bf16) (gx : FVec Ideal S1x1024 .f32) (wq : FVec Ideal S1024x1024 .bf16)
    (k0 v0 k1 v1 k2 v2 k3 v3 : FVec Ideal S1x256x256 .bf16) (q : Full) (kv : Memory) (b : Fin 2) (n : Fin 8192) (r : Fin 512)
    (hq : ∀ i : Fin 1024, k0_pay8 (F := Ideal) p u gs s x wo gx wq (ix2 r i) = q (ix3 b n i))
    (hk0 : ∀ i d : Fin 256, k0 (ix3 0 i d) = kv (ix3 b i ⟨d.val, by omega⟩)) (hv0 : ∀ i d : Fin 256, v0 (ix3 0 i d) = kv (ix3 b i ⟨1024 + d.val, by omega⟩))
    (hk1 : ∀ i d : Fin 256, k1 (ix3 0 i d) = kv (ix3 b i ⟨256 + d.val, by omega⟩)) (hv1 : ∀ i d : Fin 256, v1 (ix3 0 i d) = kv (ix3 b i ⟨1280 + d.val, by omega⟩))
    (hk2 : ∀ i d : Fin 256, k2 (ix3 0 i d) = kv (ix3 b i ⟨512 + d.val, by omega⟩)) (hv2 : ∀ i d : Fin 256, v2 (ix3 0 i d) = kv (ix3 b i ⟨1536 + d.val, by omega⟩))
    (hk3 : ∀ i d : Fin 256, k3 (ix3 0 i d) = kv (ix3 b i ⟨768 + d.val, by omega⟩)) (hv3 : ∀ i d : Fin 256, v3 (ix3 0 i d) = kv (ix3 b i ⟨1792 + d.val, by omega⟩))
    (j : Fin 1024) :
    k0_pay15 (F := Ideal) (k0_pay8 (F := Ideal) p u gs s x wo gx wq)
      (k0_pay12 (F := Ideal) (k0_pay9 (F := Ideal) k0) (k0_pay10 (F := Ideal) v0) (k0_pay11 (F := Ideal) p u gs s x wo gx wq))
      (k0_pay13 (F := Ideal) (k0_pay8 (F := Ideal) p u gs s x wo gx wq) k1 v1) (k0_pay14 (F := Ideal) k2) v2 k3 v3 (ix2 r j) =
    gathered (normed (exps (scores q kv))) kv (ix3 b n j) := by
  rw [pay15_at]
  by_cases h : j.val < 256
  · rw [dif_pos h, pay12_at]
    refine head_at q kv b n 0 _ j (by simp) _ _ _ (fun d => ?_) (fun i d => ?_) (fun i d => ?_)
    · rw [pay11_at, hq]
      exact congrArg (fun c => q (ix3 b n c)) (Fin.ext (by simp))
    · rw [pay9_at, hk0]
      exact congrArg (fun c => kv (ix3 b i c)) (Fin.ext (by simp))
    · rw [pay10_at, hv0]
      exact congrArg (fun c => kv (ix3 b i c)) (Fin.ext (by simp))
  rw [dif_neg h]
  by_cases h' : j.val - 256 < 256
  · rw [dif_pos h', pay13_at]
    refine head_at q kv b n 1 _ j (by simp; omega) _ _ _ (fun d => ?_) (fun i d => ?_) (fun i d => ?_)
    · rw [hq]
      exact congrArg (fun c => q (ix3 b n c)) (Fin.ext (by simp))
    · rw [hk1]
      exact congrArg (fun c => kv (ix3 b i c)) (Fin.ext (by simp))
    · rw [hv1]
      exact congrArg (fun c => kv (ix3 b i c)) (Fin.ext (by simp))
  rw [dif_neg h']
  by_cases h'' : j.val - 256 - 256 < 256
  · rw [dif_pos h'']
    refine head_at q kv b n 2 _ j (by simp; omega) _ _ _ (fun d => ?_) (fun i d => ?_) (fun i d => ?_)
    · rw [hq]
      exact congrArg (fun c => q (ix3 b n c)) (Fin.ext (by simp))
    · rw [pay14_at, hk2]
      exact congrArg (fun c => kv (ix3 b i c)) (Fin.ext (by simp))
    · rw [hv2]
      exact congrArg (fun c => kv (ix3 b i c)) (Fin.ext (by simp))
  · rw [dif_neg h'']
    refine head_at q kv b n 3 _ j (by simp; omega) _ _ _ (fun d => ?_) (fun i d => ?_) (fun i d => ?_)
    · rw [hq]
      exact congrArg (fun c => q (ix3 b n c)) (Fin.ext (by simp))
    · rw [hk3]
      exact congrArg (fun c => kv (ix3 b i c)) (Fin.ext (by simp))
    · rw [hv3]
      exact congrArg (fun c => kv (ix3 b i c)) (Fin.ext (by simp))

/-- The row after the second sum. -/
theorem pay1_at (h : FVec Ideal S512x1024 .f32) (o : FVec Ideal S512x1024 .bf16) (w : FVec Ideal S1024x1024 .bf16) (b : Fin 2) (n : Fin 8192) (r : Fin 512)
    (H O : Full) (hH : ∀ i : Fin 1024, h (ix2 r i) = H (ix3 b n i)) (hO : ∀ i : Fin 1024, o (ix2 r i) = O (ix3 b n i)) (j : Fin 1024) :
    k0_pay1 (F := Ideal) h o w (ix2 r j) = addf H (times O w) (ix3 b n j) := by
  pointwise [k0_pay1, times]
  simp only [hH, hO]

/-- The first result's row. -/
theorem pay2_at (h : FVec Ideal S512x1024 .f32) (o : FVec Ideal S512x1024 .bf16) (w : FVec Ideal S1024x1024 .bf16) (r : Fin 512) (j : Fin 1024) :
    k0_pay2 (F := Ideal) h o w (ix3 0 r j) = k0_pay1 (F := Ideal) h o w (ix2 r j) := by
  pointwise [k0_pay2]

/-- The second result's row. -/
theorem pay3_at (h : FVec Ideal S512x1024 .f32) (o : FVec Ideal S512x1024 .bf16) (w : FVec Ideal S1024x1024 .bf16) (g : FVec Ideal S1x1024 .f32)
    (b : Fin 2) (n : Fin 8192) (r : Fin 512) (H : Full) (hH : ∀ i : Fin 1024, k0_pay1 (F := Ideal) h o w (ix2 r i) = H (ix3 b n i)) (j : Fin 1024) :
    k0_pay3 (F := Ideal) h o w g (ix3 0 r j) = scaledFull H g (ix3 b n j) := by
  pointwise [k0_pay3, scaledFull]
  simp only [hH]

end Cert.MixIdeal.Rows

end
-- ==== Proof.MixArr.lean ====
/- The call after the attention and the scan: its two arrays are the reference's two results. -/
module

public import proofs.«01_k».proof.Defs
public import proofs.«01_k».proof.Proof.MixPay
public import proofs.«01_k».proof.Proof.Gen.MixIdeal.Value
public import Idealize.ShloMosaic.Lib.Quiescent
public import Idealize.ShloMosaic.Lib.Pipeline.ValueKit

@[expose] public section

set_option maxRecDepth 3000

noncomputable section

namespace Cert.MixIdeal.Rows

open Cert.MixIdeal Cert.MixIdeal.Gen Idealize.ShloMosaic Idealize.ShloMosaic.TcCoe Cert.Rows
open Cert.MixReferenceIdeal.Rows (Half Full Square Memory scaledHalf scaledFull gated times beside first second gathered normed exps scores)

/-- The corner of a flat block is the origin. -/
theorem corner2 : (![0, 0] : Fin 2 → Nat) = fun _ => 0 := by
  funext a
  match a with
  | ⟨0, _⟩ => rfl
  | ⟨1, _⟩ => rfl

/-- The corner of a block of three axes is the origin. -/
theorem corner3 : (![0, 0, 0] : Fin 3 → Nat) = fun _ => 0 := by
  funext a
  match a with
  | ⟨0, _⟩ => rfl
  | ⟨1, _⟩ => rfl
  | ⟨2, _⟩ => rfl

/-- A square of the memory's columns, at an index. -/
theorem slice_at (x : Vec Ideal S1x256x2048 .bf16) (o : ℕ) (inb : ∀ a, (![0, 0, o] : Fin 3 → ℕ) a + S1x256x256.size a ≤ S1x256x2048.size a)
    (i d : Fin 256) (j : Fin 2048) (hj : j.val = o + d.val) :
    View.ld x (Rect.unit (s := S1x256x2048) ![0, 0, o] S1x256x256.size inb) (ix3 (0 : Fin 1) i d) = x (ix3 (0 : Fin 1) i j) := by
  refine congrArg x (funext fun a => Fin.ext ?_)
  match a with
  | ⟨0, _⟩ => rfl
  | ⟨1, _⟩ => show 0 + 1 * i.val = i.val; omega
  | ⟨2, _⟩ => show o + 1 * d.val = j.val; omega

/-- A block's rows after the first sum. -/
def mid (x0 : Vec Ideal S1x512x1024 .f32) (x1 : Vec Ideal S1x512x512 .f32) (x2 : Vec Ideal S1x512x512 .f32) (x3 : Vec Ideal S1x512 .f32) (x4 : Vec Ideal S1x512 .f32) (x5 : Vec Ideal S512x512 .bf16) (x6 : Vec Ideal S1x512 .f32) (x7 : Vec Ideal S1024x1024 .bf16) : FVec Ideal S512x1024 .f32 :=
  k0_pay7 (F := Ideal) (k0_pay4 (F := Ideal) x1 x3) (k0_pay5 (F := Ideal) x2 x5 x6) x4 (k0_pay6 (F := Ideal) x2 x5 x6) x0 x7

/-- A block's cross-attention. -/
def heads (x0 : Vec Ideal S1x512x1024 .f32) (x1 : Vec Ideal S1x512x512 .f32) (x2 : Vec Ideal S1x512x512 .f32) (x3 : Vec Ideal S1x512 .f32) (x4 : Vec Ideal S1x512 .f32) (x5 : Vec Ideal S512x512 .bf16) (x6 : Vec Ideal S1x512 .f32) (x7 : Vec Ideal S1024x1024 .bf16) (x8 : Vec Ideal S1x1024 .f32) (x9 : Vec Ideal S1024x1024 .bf16) (x10 : Vec Ideal S1x256x2048 .bf16) : FVec Ideal S512x1024 .bf16 :=
  k0_pay15 (F := Ideal) (k0_pay8 (F := Ideal) (k0_pay4 (F := Ideal) x1 x3) (k0_pay5 (F := Ideal) x2 x5 x6) x4 (k0_pay6 (F := Ideal) x2 x5 x6) x0 x7 x8 x9)
    (k0_pay12 (F := Ideal) (k0_pay9 (F := Ideal) (View.ld x10 r0_6)) (k0_pay10 (F := Ideal) (View.ld x10 r0_7))
      (k0_pay11 (F := Ideal) (k0_pay4 (F := Ideal) x1 x3) (k0_pay5 (F := Ideal) x2 x5 x6) x4 (k0_pay6 (F := Ideal) x2 x5 x6) x0 x7 x8 x9))
    (k0_pay13 (F := Ideal) (k0_pay8 (F := Ideal) (k0_pay4 (F := Ideal) x1 x3) (k0_pay5 (F := Ideal) x2 x5 x6) x4 (k0_pay6 (F := Ideal) x2 x5 x6) x0 x7 x8 x9)
      (View.ld x10 r0_8) (View.ld x10 r0_9))
    (k0_pay14 (F := Ideal) (View.ld x10 r0_10)) (View.ld x10 r0_11) (View.ld x10 r0_12) (View.ld x10 r0_13)

/-- What a grid point leaves of the first result, from its blocks. -/
theorem left13 (x0 : Vec Ideal S1x512x1024 .f32) (x1 : Vec Ideal S1x512x512 .f32) (x2 : Vec Ideal S1x512x512 .f32) (x3 : Vec Ideal S1x512 .f32) (x4 : Vec Ideal S1x512 .f32) (x5 : Vec Ideal S512x512 .bf16) (x6 : Vec Ideal S1x512 .f32) (x7 : Vec Ideal S1024x1024 .bf16) (x8 : Vec Ideal S1x1024 .f32) (x9 : Vec Ideal S1024x1024 .bf16) (x10 : Vec Ideal S1x256x2048 .bf16) (x11 : Vec Ideal S1024x1024 .bf16) (x12 : Vec Ideal S1x1024 .f32) :
    out0_13 (F := Ideal) x0 x1 x2 x3 x4 x5 x6 x7 x8 x9 x10 x11 x12 = k0_pay2 (F := Ideal) (mid x0 x1 x2 x3 x4 x5 x6 x7) (heads x0 x1 x2 x3 x4 x5 x6 x7 x8 x9 x10) x11 := by
  unfold out0_13 k0_pay21 k0_pay20 k0_pay19 k0_pay18 k0_pay17 k0_pay16 mid heads
  simp only [View.ld_unit_zero (S := S1x512x1024) corner3 _ x0, View.ld_unit_zero (S := S1x512x512) corner3 _ x1, View.ld_unit_zero (S := S1x512x512) corner3 _ x2, View.ld_unit_zero (S := S1x512) corner2 _ x3, View.ld_unit_zero (S := S1x512) corner2 _ x4, View.ld_unit_zero (S := S512x512) corner2 _ x5, View.ld_unit_zero (S := S1x512) corner2 _ x6, View.ld_unit_zero (S := S1024x1024) corner2 _ x7, View.ld_unit_zero (S := S1x1024) corner2 _ x8, View.ld_unit_zero (S := S1024x1024) corner2 _ x9, View.ld_unit_zero (S := S1024x1024) corner2 _ x11]
  rw [View.canon_unit_zero corner3]

/-- What a grid point leaves of the second result, from its blocks. -/
theorem left14 (x0 : Vec Ideal S1x512x1024 .f32) (x1 : Vec Ideal S1x512x512 .f32) (x2 : Vec Ideal S1x512x512 .f32) (x3 : Vec Ideal S1x512 .f32) (x4 : Vec Ideal S1x512 .f32) (x5 : Vec Ideal S512x512 .bf16) (x6 : Vec Ideal S1x512 .f32) (x7 : Vec Ideal S1024x1024 .bf16) (x8 : Vec Ideal S1x1024 .f32) (x9 : Vec Ideal S1024x1024 .bf16) (x10 : Vec Ideal S1x256x2048 .bf16) (x11 : Vec Ideal S1024x1024 .bf16) (x12 : Vec Ideal S1x1024 .f32) :
    out0_14 (F := Ideal) x0 x1 x2 x3 x4 x5 x6 x7 x8 x9 x10 x11 x12 = k0_pay3 (F := Ideal) (mid x0 x1 x2 x3 x4 x5 x6 x7) (heads x0 x1 x2 x3 x4 x5 x6 x7 x8 x9 x10) x11 x12 := by
  unfold out0_14 k0_pay21 k0_pay20 k0_pay19 k0_pay18 k0_pay17 k0_pay16 mid heads
  simp only [View.ld_unit_zero (S := S1x512x1024) corner3 _ x0, View.ld_unit_zero (S := S1x512x512) corner3 _ x1, View.ld_unit_zero (S := S1x512x512) corner3 _ x2, View.ld_unit_zero (S := S1x512) corner2 _ x3, View.ld_unit_zero (S := S1x512) corner2 _ x4, View.ld_unit_zero (S := S512x512) corner2 _ x5, View.ld_unit_zero (S := S1x512) corner2 _ x6, View.ld_unit_zero (S := S1024x1024) corner2 _ x7, View.ld_unit_zero (S := S1x1024) corner2 _ x8, View.ld_unit_zero (S := S1024x1024) corner2 _ x9, View.ld_unit_zero (S := S1024x1024) corner2 _ x11, View.ld_unit_zero (S := S1x1024) corner2 _ x12]
  rw [View.canon_unit_zero corner3]

section
variable (b : Fin 2) (n : Fin 8192) (r : Fin 512) (x0 : Vec Ideal S1x512x1024 .f32) (x1 : Vec Ideal S1x512x512 .f32) (x2 : Vec Ideal S1x512x512 .f32) (x3 : Vec Ideal S1x512 .f32) (x4 : Vec Ideal S1x512 .f32) (x5 : Vec Ideal S512x512 .bf16) (x6 : Vec Ideal S1x512 .f32) (x7 : Vec Ideal S1024x1024 .bf16) (x8 : Vec Ideal S1x1024 .f32) (x9 : Vec Ideal S1024x1024 .bf16) (x10 : Vec Ideal S1x256x2048 .bf16) (x11 : Vec Ideal S1024x1024 .bf16) (x12 : Vec Ideal S1x1024 .f32)
  (X : Full) (A Y : Half) (KV : Memory)

/-- A block's row after the first sum is the reference's. -/
theorem mid_at (h0 : ∀ i : Fin 1024, x0 (ix3 0 r i) = X (ix3 b n i)) (h1 : ∀ i : Fin 512, x1 (ix3 0 r i) = A (ix3 b n i)) (h2 : ∀ i : Fin 512, x2 (ix3 0 r i) = Y (ix3 b n i)) (j : Fin 1024) :
    mid x0 x1 x2 x3 x4 x5 x6 x7 (ix2 r j) = first X A Y x3 x4 x5 x6 x7 (ix3 b n j) :=
  pay7_at b n r _ _ x4 _ x0 x7 X A (gated Y x5 x6) x3 h0 (fun i => pay4_at b n r x1 x3 A h1 i) (fun i => pay5_at b n r x2 x5 x6 Y h2 i)
    (pay6_at b n r x2 x5 x6 Y h2) j

/-- A block's row of the cross-attention is the reference's. -/
theorem block_heads_at (h0 : ∀ i : Fin 1024, x0 (ix3 0 r i) = X (ix3 b n i)) (h1 : ∀ i : Fin 512, x1 (ix3 0 r i) = A (ix3 b n i)) (h2 : ∀ i : Fin 512, x2 (ix3 0 r i) = Y (ix3 b n i))
    (h10 : ∀ (i : Fin 256) (d : Fin 2048), x10 (ix3 0 i d) = KV (ix3 b i d)) (j : Fin 1024) :
    heads x0 x1 x2 x3 x4 x5 x6 x7 x8 x9 x10 (ix2 r j)
      = gathered (normed (exps (scores (times (scaledFull (first X A Y x3 x4 x5 x6 x7) x8) x9) KV))) KV (ix3 b n j) :=
  heads_at _ _ x4 _ x0 x7 x8 x9 _ _ _ _ _ _ _ _ (times (scaledFull (first X A Y x3 x4 x5 x6 x7) x8) x9) KV b n r
    (fun i => pay8_at b n r _ _ x4 _ x0 x7 x8 x9 (first X A Y x3 x4 x5 x6 x7) (fun i => mid_at b n r x0 x1 x2 x3 x4 x5 x6 x7 X A Y h0 h1 h2 i) i)
    (fun i d => (slice_at x10 0 _ i d ⟨d.val, by omega⟩ (by simp)).trans (h10 _ _))
    (fun i d => (slice_at x10 1024 _ i d ⟨1024 + d.val, by omega⟩ rfl).trans (h10 _ _))
    (fun i d => (slice_at x10 256 _ i d ⟨256 + d.val, by omega⟩ rfl).trans (h10 _ _))
    (fun i d => (slice_at x10 1280 _ i d ⟨1280 + d.val, by omega⟩ rfl).trans (h10 _ _))
    (fun i d => (slice_at x10 512 _ i d ⟨512 + d.val, by omega⟩ rfl).trans (h10 _ _))
    (fun i d => (slice_at x10 1536 _ i d ⟨1536 + d.val, by omega⟩ rfl).trans (h10 _ _))
    (fun i d => (slice_at x10 768 _ i d ⟨768 + d.val, by omega⟩ rfl).trans (h10 _ _))
    (fun i d => (slice_at x10 1792 _ i d ⟨1792 + d.val, by omega⟩ rfl).trans (h10 _ _)) j

/-- A block's row after the second sum is the reference's. -/
theorem one_at (h0 : ∀ i : Fin 1024, x0 (ix3 0 r i) = X (ix3 b n i)) (h1 : ∀ i : Fin 512, x1 (ix3 0 r i) = A (ix3 b n i)) (h2 : ∀ i : Fin 512, x2 (ix3 0 r i) = Y (ix3 b n i))
    (h10 : ∀ (i : Fin 256) (d : Fin 2048), x10 (ix3 0 i d) = KV (ix3 b i d)) (j : Fin 1024) :
    k0_pay1 (F := Ideal) (mid x0 x1 x2 x3 x4 x5 x6 x7) (heads x0 x1 x2 x3 x4 x5 x6 x7 x8 x9 x10) x11 (ix2 r j)
      = second (first X A Y x3 x4 x5 x6 x7) KV x8 x9 x11 (ix3 b n j) :=
  pay1_at _ _ x11 b n r _ _ (fun i => mid_at b n r x0 x1 x2 x3 x4 x5 x6 x7 X A Y h0 h1 h2 i)
    (fun i => block_heads_at b n r x0 x1 x2 x3 x4 x5 x6 x7 x8 x9 x10 X A Y KV h0 h1 h2 h10 i) j

/-- One entry a grid point writes of the first result. -/
theorem out13_at (h0 : ∀ i : Fin 1024, x0 (ix3 0 r i) = X (ix3 b n i)) (h1 : ∀ i : Fin 512, x1 (ix3 0 r i) = A (ix3 b n i)) (h2 : ∀ i : Fin 512, x2 (ix3 0 r i) = Y (ix3 b n i))
    (h10 : ∀ (i : Fin 256) (d : Fin 2048), x10 (ix3 0 i d) = KV (ix3 b i d)) (j : Fin 1024) :
    out0_13 (F := Ideal) x0 x1 x2 x3 x4 x5 x6 x7 x8 x9 x10 x11 x12 (ix3 0 r j) = second (first X A Y x3 x4 x5 x6 x7) KV x8 x9 x11 (ix3 b n j) := by
  rw [left13]
  exact (pay2_at _ _ x11 r j).trans (one_at b n r x0 x1 x2 x3 x4 x5 x6 x7 x8 x9 x10 x11 X A Y KV h0 h1 h2 h10 j)

/-- One entry a grid point writes of the second result. -/
theorem out14_at (h0 : ∀ i : Fin 1024, x0 (ix3 0 r i) = X (ix3 b n i)) (h1 : ∀ i : Fin 512, x1 (ix3 0 r i) = A (ix3 b n i)) (h2 : ∀ i : Fin 512, x2 (ix3 0 r i) = Y (ix3 b n i))
    (h10 : ∀ (i : Fin 256) (d : Fin 2048), x10 (ix3 0 i d) = KV (ix3 b i d)) (j : Fin 1024) :
    out0_14 (F := Ideal) x0 x1 x2 x3 x4 x5 x6 x7 x8 x9 x10 x11 x12 (ix3 0 r j) = scaledFull (second (first X A Y x3 x4 x5 x6 x7) KV x8 x9 x11) x12 (ix3 b n j) := by
  rw [left14]
  exact pay3_at _ _ x11 x12 b n r _ (fun i => one_at b n r x0 x1 x2 x3 x4 x5 x6 x7 x8 x9 x10 x11 X A Y KV h0 h1 h2 h10 i) j

end

/-- Which block of the rows a grid point takes. -/
theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

/-- Which block of the attention's rows a grid point takes. -/
theorem idx1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])

/-- Which block of the scan's rows a grid point takes. -/
theorem idx2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])

/-- Which block of the attention's gains a grid point takes. -/
theorem idx3 : ∀ t : Fin cfg0.N, win0_3.index t = ![0, 0] :=
  (by decide +kernel : ∀ t : Fin grid0.N, win0_3.index t = ![0, 0])

/-- Which block of the scan's gains a grid point takes. -/
theorem idx4 : ∀ t : Fin cfg0.N, win0_4.index t = ![0, 0] :=
  (by decide +kernel : ∀ t : Fin grid0.N, win0_4.index t = ![0, 0])

/-- Which block of the gates' weights a grid point takes. -/
theorem idx5 : ∀ t : Fin cfg0.N, win0_5.index t = ![0, 0] :=
  (by decide +kernel : ∀ t : Fin grid0.N, win0_5.index t = ![0, 0])

/-- Which block of the gates' shifts a grid point takes. -/
theorem idx6 : ∀ t : Fin cfg0.N, win0_6.index t = ![0, 0] :=
  (by decide +kernel : ∀ t : Fin grid0.N, win0_6.index t = ![0, 0])

/-- Which block of the first sum's weights a grid point takes. -/
theorem idx7 : ∀ t : Fin cfg0.N, win0_7.index t = ![0, 0] :=
  (by decide +kernel : ∀ t : Fin grid0.N, win0_7.index t = ![0, 0])

/-- Which block of the cross-attention's gains a grid point takes. -/
theorem idx8 : ∀ t : Fin cfg0.N, win0_8.index t = ![0, 0] :=
  (by decide +kernel : ∀ t : Fin grid0.N, win0_8.index t = ![0, 0])

/-- Which block of the queries' weights a grid point takes. -/
theorem idx9 : ∀ t : Fin cfg0.N, win0_9.index t = ![0, 0] :=
  (by decide +kernel : ∀ t : Fin grid0.N, win0_9.index t = ![0, 0])

/-- Which block of the memory a grid point takes. -/
theorem idx10 : ∀ t : Fin cfg0.N, win0_10.index t = ![(grid0.coords t 0).val, 0, 0] :=
  (by decide +kernel : ∀ t : Fin grid0.N, win0_10.index t = ![(grid0.coords t 0).val, 0, 0])

/-- Which block of the second sum's weights a grid point takes. -/
theorem idx11 : ∀ t : Fin cfg0.N, win0_11.index t = ![0, 0] :=
  (by decide +kernel : ∀ t : Fin grid0.N, win0_11.index t = ![0, 0])

/-- Which block of the last gains a grid point takes. -/
theorem idx12 : ∀ t : Fin cfg0.N, win0_12.index t = ![0, 0] :=
  (by decide +kernel : ∀ t : Fin grid0.N, win0_12.index t = ![0, 0])

/-- Which block of the first result a grid point takes. -/
theorem idx13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])

/-- Which block of the second result a grid point takes. -/
theorem idx14 : ∀ t : Fin cfg0.N, win0_14.index t = ![(grid0.coords t 0).val, (grid0.coords t 1).val, 0] :=
  (by decide +kernel : ∀ t : Fin grid0.N, win0_14.index t = ![(grid0.coords t 0).val, (grid0.coords t 1).val, 0])

variable (m : (ℓ : Loc nD τ sig) → Buf (Elt Ideal) ℓ) (c : Dev nD)

/-- The rows as launched. -/
abbrev X : Vec Ideal S2x8192x1024 .f32 := m ((c : Thread nD τ).loc main_arg0)
/-- The attention's rows as launched. -/
abbrev A : Vec Ideal S2x8192x512 .f32 := m ((c : Thread nD τ).loc main_arg1)
/-- The scan's rows as launched. -/
abbrev Y : Vec Ideal S2x8192x512 .f32 := m ((c : Thread nD τ).loc main_arg2)
/-- The attention's gains as launched. -/
abbrev GA : Vec Ideal S1x512 .f32 := m ((c : Thread nD τ).loc main_arg4)
/-- The scan's gains as launched. -/
abbrev GS : Vec Ideal S1x512 .f32 := m ((c : Thread nD τ).loc main_arg5)
/-- The gates' weights as launched. -/
abbrev WG : Vec Ideal S512x512 .bf16 := m ((c : Thread nD τ).loc main_arg6)
/-- The gates' shifts as launched. -/
abbrev BG : Vec Ideal S1x512 .f32 := m ((c : Thread nD τ).loc main_arg7)
/-- The first sum's weights as launched. -/
abbrev WO : Vec Ideal S1024x1024 .bf16 := m ((c : Thread nD τ).loc main_arg8)
/-- The cross-attention's gains as launched. -/
abbrev GX : Vec Ideal S1x1024 .f32 := m ((c : Thread nD τ).loc main_arg9)
/-- The queries' weights as launched. -/
abbrev WQ : Vec Ideal S1024x1024 .bf16 := m ((c : Thread nD τ).loc main_arg10)
/-- The memory as launched. -/
abbrev KV : Vec Ideal S2x256x2048 .bf16 := m ((c : Thread nD τ).loc main_arg3)
/-- The second sum's weights as launched. -/
abbrev WX : Vec Ideal S1024x1024 .bf16 := m ((c : Thread nD τ).loc main_arg11)
/-- The last gains as launched. -/
abbrev GF : Vec Ideal S1x1024 .f32 := m ((c : Thread nD τ).loc main_arg12)

/-- A grid point's rows, at one index. -/
theorem blk0 (t : Fin cfg0.N) (r : Fin 512) (i : Fin 1024) (b : Fin 2) (n : Fin 8192) (hb : b.val = (grid0.coords t 0).val)
    (hn : n.val = 512 * (grid0.coords t 1).val + r.val) : iblk m c 0 t (ix3 (0 : Fin 1) r i) = X m c (ix3 b n i) := by
  unfold iblk
  blk_simp
  rw [V_main_arg0]
  refine congrArg (m ((c : Thread nD τ).loc main_arg0)) (funext fun a => Fin.ext ?_)
  match a with
  | ⟨0, _⟩ => blk_simp [idx0]; first | exact hb.symm | (show _ = b.val; omega)
  | ⟨1, _⟩ => blk_simp [idx0]; show _ + r.val = n.val; omega
  | ⟨2, _⟩ => blk_simp [idx0]

/-- A grid point's attention's rows, at one index. -/
theorem blk1 (t : Fin cfg0.N) (r : Fin 512) (i : Fin 512) (b : Fin 2) (n : Fin 8192) (hb : b.val = (grid0.coords t 0).val)
    (hn : n.val = 512 * (grid0.coords t 1).val + r.val) : iblk m c 1 t (ix3 (0 : Fin 1) r i) = A m c (ix3 b n i) := by
  unfold iblk
  blk_simp
  rw [V_main_arg1]
  refine congrArg (m ((c : Thread nD τ).loc main_arg1)) (funext fun a => Fin.ext ?_)
  match a with
  | ⟨0, _⟩ => blk_simp [idx1]; first | exact hb.symm | (show _ = b.val; omega)
  | ⟨1, _⟩ => blk_simp [idx1]; show _ + r.val = n.val; omega
  | ⟨2, _⟩ => blk_simp [idx1]

/-- A grid point's scan's rows, at one index. -/
theorem blk2 (t : Fin cfg0.N) (r : Fin 512) (i : Fin 512) (b : Fin 2) (n : Fin 8192) (hb : b.val = (grid0.coords t 0).val)
    (hn : n.val = 512 * (grid0.coords t 1).val + r.val) : iblk m c 2 t (ix3 (0 : Fin 1) r i) = Y m c (ix3 b n i) := by
  unfold iblk
  blk_simp
  rw [V_main_arg2]
  refine congrArg (m ((c : Thread nD τ).loc main_arg2)) (funext fun a => Fin.ext ?_)
  match a with
  | ⟨0, _⟩ => blk_simp [idx2]; first | exact hb.symm | (show _ = b.val; omega)
  | ⟨1, _⟩ => blk_simp [idx2]; show _ + r.val = n.val; omega
  | ⟨2, _⟩ => blk_simp [idx2]

/-- A grid point's attention's gains are all of them. -/
theorem blk3 (t : Fin cfg0.N) : iblk m c 3 t = GA m c := by
  funext y
  unfold iblk
  blk_simp
  rw [V_main_arg4]
  refine congrArg (m ((c : Thread nD τ).loc main_arg4)) (funext fun a => Fin.ext ?_)
  match a with
  | ⟨0, _⟩ => blk_simp [idx3]
  | ⟨1, _⟩ => blk_simp [idx3]

/-- A grid point's scan's gains are all of them. -/
theorem blk4 (t : Fin cfg0.N) : iblk m c 4 t = GS m c := by
  funext y
  unfold iblk
  blk_simp
  rw [V_main_arg5]
  refine congrArg (m ((c : Thread nD τ).loc main_arg5)) (funext fun a => Fin.ext ?_)
  match a with
  | ⟨0, _⟩ => blk_simp [idx4]
  | ⟨1, _⟩ => blk_simp [idx4]

/-- A grid point's gates' weights are all of them. -/
theorem blk5 (t : Fin cfg0.N) : iblk m c 5 t = WG m c := by
  funext y
  unfold iblk
  blk_simp
  rw [V_main_arg6]
  refine congrArg (m ((c : Thread nD τ).loc main_arg6)) (funext fun a => Fin.ext ?_)
  match a with
  | ⟨0, _⟩ => blk_simp [idx5]
  | ⟨1, _⟩ => blk_simp [idx5]

/-- A grid point's gates' shifts are all of them. -/
theorem blk6 (t : Fin cfg0.N) : iblk m c 6 t = BG m c := by
  funext y
  unfold iblk
  blk_simp
  rw [V_main_arg7]
  refine congrArg (m ((c : Thread nD τ).loc main_arg7)) (funext fun a => Fin.ext ?_)
  match a with
  | ⟨0, _⟩ => blk_simp [idx6]
  | ⟨1, _⟩ => blk_simp [idx6]

/-- A grid point's first sum's weights are all of them. -/
theorem blk7 (t : Fin cfg0.N) : iblk m c 7 t = WO m c := by
  funext y
  unfold iblk
  blk_simp
  rw [V_main_arg8]
  refine congrArg (m ((c : Thread nD τ).loc main_arg8)) (funext fun a => Fin.ext ?_)
  match a with
  | ⟨0, _⟩ => blk_simp [idx7]
  | ⟨1, _⟩ => blk_simp [idx7]

/-- A grid point's cross-attention's gains are all of them. -/
theorem blk8 (t : Fin cfg0.N) : iblk m c 8 t = GX m c := by
  funext y
  unfold iblk
  blk_simp
  rw [V_main_arg9]
  refine congrArg (m ((c : Thread nD τ).loc main_arg9)) (funext fun a => Fin.ext ?_)
  match a with
  | ⟨0, _⟩ => blk_simp [idx8]
  | ⟨1, _⟩ => blk_simp [idx8]

/-- A grid point's queries' weights are all of them. -/
theorem blk9 (t : Fin cfg0.N) : iblk m c 9 t = WQ m c := by
  funext y
  unfold iblk
  blk_simp
  rw [V_main_arg10]
  refine congrArg (m ((c : Thread nD τ).loc main_arg10)) (funext fun a => Fin.ext ?_)
  match a with
  | ⟨0, _⟩ => blk_simp [idx9]
  | ⟨1, _⟩ => blk_simp [idx9]

/-- A grid point's memory, at one index. -/
theorem blk10 (t : Fin cfg0.N) (i : Fin 256) (d : Fin 2048) (b : Fin 2) (hb : b.val = (grid0.coords t 0).val) :
    iblk m c 10 t (ix3 (0 : Fin 1) i d) = KV m c (ix3 b i d) := by
  unfold iblk
  blk_simp
  rw [V_main_arg3]
  refine congrArg (m ((c : Thread nD τ).loc main_arg3)) (funext fun a => Fin.ext ?_)
  match a with
  | ⟨0, _⟩ => blk_simp [idx10]; first | exact hb.symm | (show _ = b.val; omega)
  | ⟨1, _⟩ => blk_simp [idx10]
  | ⟨2, _⟩ => blk_simp [idx10]

/-- A grid point's second sum's weights are all of them. -/
theorem blk11 (t : Fin cfg0.N) : iblk m c 11 t = WX m c := by
  funext y
  unfold iblk
  blk_simp
  rw [V_main_arg11]
  refine congrArg (m ((c : Thread nD τ).loc main_arg11)) (funext fun a => Fin.ext ?_)
  match a with
  | ⟨0, _⟩ => blk_simp [idx11]
  | ⟨1, _⟩ => blk_simp [idx11]

/-- A grid point's last gains are all of them. -/
theorem blk12 (t : Fin cfg0.N) : iblk m c 12 t = GF m c := by
  funext y
  unfold iblk
  blk_simp
  rw [V_main_arg12]
  refine congrArg (m ((c : Thread nD τ).loc main_arg12)) (funext fun a => Fin.ext ?_)
  match a with
  | ⟨0, _⟩ => blk_simp [idx12]
  | ⟨1, _⟩ => blk_simp [idx12]

/-- The array of the first result. -/
theorem array13 : (dats m 0 c).arrAt 13 cfg0.N = second (first (X m c) (A m c) (Y m c) (GA m c) (GS m c) (WG m c) (BG m c) (WO m c)) (KV m c) (GX m c) (WQ m c) (WX m c) := by
  refine (dats m 0 c).arrAt_eq_of_covers 13 _ (by decide +kernel) fun t hf y => ?_
  blk_simp
  rw [after0_13]
  have y0 : (show Fin 1 from y 0) = (0 : Fin 1) := Subsingleton.elim _ _
  have e0 : (((cfg0.win 13).blk t).view.emb y 0 : Fin 2).val = (grid0.coords t 0).val := by
    have h : (show Fin 1 from y 0).val = 0 := congrArg Fin.val y0
    change (y 0).val = 0 at h
    blk_simp [idx13]; try omega
  have e1 : (((cfg0.win 13).blk t).view.emb y 1 : Fin 8192).val = 512 * (grid0.coords t 1).val + (y 1).val := by
    blk_simp [idx13]; omega
  have e2 : (((cfg0.win 13).blk t).view.emb y 2 : Fin 1024) = (y 2 : Fin 1024) := Fin.ext (by
    blk_simp [idx13])
  rw [blk3, blk4, blk5, blk6, blk7, blk8, blk9, blk11, blk12]
  refine (congrArg _ ((eq_ix3 (n0 := 1) (n1 := 512) (n2 := 1024) y).trans (congrArg (fun a : Fin 1 => ix3 a (y 1 : Fin 512) (y 2 : Fin 1024)) y0))).trans ?_
  refine (out13_at (((cfg0.win 13).blk t).view.emb y 0 : Fin 2) (((cfg0.win 13).blk t).view.emb y 1 : Fin 8192) (y 1) (iblk m c 0 t) (iblk m c 1 t) (iblk m c 2 t)
    (GA m c) (GS m c) (WG m c) (BG m c) (WO m c) (GX m c) (WQ m c) (iblk m c 10 t) (WX m c) (GF m c) (X m c) (A m c) (Y m c) (KV m c)
    (fun i => blk0 m c t (y 1) i _ _ e0 e1) (fun i => blk1 m c t (y 1) i _ _ e0 e1) (fun i => blk2 m c t (y 1) i _ _ e0 e1)
    (fun i d => blk10 m c t i d _ e0) (y 2)).trans ?_
  rw [← e2]
  exact congrArg _ (eq_ix3 (n0 := 2) (n1 := 8192) (n2 := 1024) (((cfg0.win 13).blk t).view.emb y)).symm

/-- The array of the second result. -/
theorem array14 : (dats m 0 c).arrAt 14 cfg0.N = scaledFull (second (first (X m c) (A m c) (Y m c) (GA m c) (GS m c) (WG m c) (BG m c) (WO m c)) (KV m c) (GX m c) (WQ m c) (WX m c)) (GF m c) := by
  refine (dats m 0 c).arrAt_eq_of_covers 14 _ (by decide +kernel) fun t hf y => ?_
  blk_simp
  rw [after0_14]
  have y0 : (show Fin 1 from y 0) = (0 : Fin 1) := Subsingleton.elim _ _
  have e0 : (((cfg0.win 14).blk t).view.emb y 0 : Fin 2).val = (grid0.coords t 0).val := by
    have h : (show Fin 1 from y 0).val = 0 := congrArg Fin.val y0
    change (y 0).val = 0 at h
    blk_simp [idx14]; try omega
  have e1 : (((cfg0.win 14).blk t).view.emb y 1 : Fin 8192).val = 512 * (grid0.coords t 1).val + (y 1).val := by
    blk_simp [idx14]; omega
  have e2 : (((cfg0.win 14).blk t).view.emb y 2 : Fin 1024) = (y 2 : Fin 1024) := Fin.ext (by
    blk_simp [idx14])
  rw [blk3, blk4, blk5, blk6, blk7, blk8, blk9, blk11, blk12]
  refine (congrArg _ ((eq_ix3 (n0 := 1) (n1 := 512) (n2 := 1024) y).trans (congrArg (fun a : Fin 1 => ix3 a (y 1 : Fin 512) (y 2 : Fin 1024)) y0))).trans ?_
  refine (out14_at (((cfg0.win 14).blk t).view.emb y 0 : Fin 2) (((cfg0.win 14).blk t).view.emb y 1 : Fin 8192) (y 1) (iblk m c 0 t) (iblk m c 1 t) (iblk m c 2 t)
    (GA m c) (GS m c) (WG m c) (BG m c) (WO m c) (GX m c) (WQ m c) (iblk m c 10 t) (WX m c) (GF m c) (X m c) (A m c) (Y m c) (KV m c)
    (fun i => blk0 m c t (y 1) i _ _ e0 e1) (fun i => blk1 m c t (y 1) i _ _ e0 e1) (fun i => blk2 m c t (y 1) i _ _ e0 e1)
    (fun i d => blk10 m c t i d _ e0) (y 2)).trans ?_
  rw [← e2]
  exact congrArg _ (eq_ix3 (n0 := 2) (n1 := 8192) (n2 := 1024) (((cfg0.win 14).blk t).view.emb y)).symm

end Cert.MixIdeal.Rows

namespace Cert.Claims

open Idealize.ShloMosaic Idealize.ShloMosaic.TcCoe Idealize.SL.Sem

/-- The reference of the call after the attention and the scan runs, its arguments unchanged and every counter at zero. -/
theorem frame_mix_reference : Cert.quiescent_MixReferenceIdeal := fun m ρ _ =>
  (θ_run Cert.MixReferenceIdeal.defs _ _).mono (fun r h => ⟨fun c => (h c).2.2, Idealize.ShloMosaic.sem_eq_zero_of_no_sems (by decide) r.2⟩)
    (Cert.MixReferenceIdeal.Value.run (F := Ideal) m ρ)

/-- The kernel and the reference end with equal results of that call. -/
theorem algebraic_mix : Cert.algebraic_MixIdeal_MixReferenceIdeal := by
  intro m g m' g' hpre harg
  refine ⟨_, _, Cert.MixIdeal.Value.run_blocks (F := Ideal) m g, ?_⟩
  refine (θ_run Cert.MixReferenceIdeal.defs _ _).mono (fun r h c => ⟨(h c).1.trans ?_, (h c).2.1.trans ?_, (h c).2.2⟩)
    (Cert.MixReferenceIdeal.Value.run (F := Ideal) m' g')
  · rw [Cert.MixReferenceIdeal.Rows.res_eq, (harg c).1, (harg c).2.1, (harg c).2.2.1, (harg c).2.2.2.1, (harg c).2.2.2.2.1, (harg c).2.2.2.2.2.1, (harg c).2.2.2.2.2.2.1, (harg c).2.2.2.2.2.2.2.1, (harg c).2.2.2.2.2.2.2.2.1, (harg c).2.2.2.2.2.2.2.2.2.1, (harg c).2.2.2.2.2.2.2.2.2.2.1, (harg c).2.2.2.2.2.2.2.2.2.2.2.1]
    exact (Cert.MixIdeal.Rows.array13 m c).symm
  · refine Eq.trans (b := Cert.MixReferenceIdeal.Rows.scaledFull (Cert.MixReferenceIdeal.Value.res_main_v83 (F := Ideal) (StableHlo.launchContents m' c)) (m' ((c.tc : Thread Cert.MixReferenceIdeal.nD Cert.MixReferenceIdeal.τ).loc Cert.MixReferenceIdeal.main_arg12))) rfl ?_
    rw [Cert.MixReferenceIdeal.Rows.res_eq, (harg c).1, (harg c).2.1, (harg c).2.2.1, (harg c).2.2.2.1, (harg c).2.2.2.2.1, (harg c).2.2.2.2.2.1, (harg c).2.2.2.2.2.2.1, (harg c).2.2.2.2.2.2.2.1, (harg c).2.2.2.2.2.2.2.2.1, (harg c).2.2.2.2.2.2.2.2.2.1, (harg c).2.2.2.2.2.2.2.2.2.2.1, (harg c).2.2.2.2.2.2.2.2.2.2.2.1, (harg c).2.2.2.2.2.2.2.2.2.2.2.2]
    exact (Cert.MixIdeal.Rows.array14 m c).symm

end Cert.Claims

end
-- ==== Proof.PeerTile.lean ====
/- The experts' call: what the body's stores leave in the two scratch arrays, as lists of one shape. -/
module

public import proofs.«01_k».proof.Proof.Gen.PeerIdeal.Value
public import Idealize.ShloMosaic.Lib.Pipeline.ValueKit

@[expose] public section

set_option maxRecDepth 16384

noncomputable section

namespace Cert.PeerIdeal.Rows

open Cert.PeerIdeal Cert.PeerIdeal.Gen Idealize.ShloMosaic Idealize.ShloMosaic.TcCoe Idealize.ShloMosaic.Tactic

variable {F : FTy → Type} [FloatOps F]

/-- One row and one column block of the scratch of rows lie inside it. -/
theorem inb_row (p c : ℕ) (hp : p < 256) (hc : c < 4) : ∀ a, (![p, 128 * c] : Fin 2 → ℕ) a + S1x128.size a ≤ S256x512.size a := by
  intro a
  match a with
  | ⟨0, _⟩ => show p + 1 ≤ 256; omega
  | ⟨1, _⟩ => show 128 * c + 128 ≤ 512; omega

/-- One head and one column block of a table lie inside it. -/
theorem inb_table (h c : ℕ) (hh : h < 8) (hc : c < 4) : ∀ a, (![h, 0, 128 * c] : Fin 3 → ℕ) a + S1x128x128.size a ≤ S8x128x512.size a := by
  intro a
  match a with
  | ⟨0, _⟩ => show h + 1 ≤ 8; omega
  | ⟨1, _⟩ => show 0 + 128 ≤ 128; omega
  | ⟨2, _⟩ => show 128 * c + 128 ≤ 512; omega

/-- One tile lies inside the weights' scratch. -/
theorem inb_tile (r c : ℕ) (hr : r < 16) (hc : c < 4) : ∀ a, (![128 * r, 128 * c] : Fin 2 → ℕ) a + S128x128.size a ≤ S2048x512.size a := by
  intro a
  match a with
  | ⟨0, _⟩ => show 128 * r + 128 ≤ 2048; omega
  | ⟨1, _⟩ => show 128 * c + 128 ≤ 512; omega

/-- The weights of one tile, from its activations, the heads' rows and the heads' tables. -/
def tile (a n : Fin 8 → Vec F S1x128 .f32) (rk bn : Fin 8 → Vec F S1x128x128 .bf16) (act : Vec F S128x128 .f32) : FVec F S128x128 .bf16 :=
  k0_pay1348 (addf (addf (addf (addf (addf (addf (addf (k0_pay261 (a 0) (n 0) (rk 0) (bn 0)) (k0_pay261 (a 1) (n 1) (rk 1) (bn 1)))
    (k0_pay261 (a 2) (n 2) (rk 2) (bn 2))) (k0_pay261 (a 3) (n 3) (rk 3) (bn 3))) (k0_pay261 (a 4) (n 4) (rk 4) (bn 4)))
    (k0_pay261 (a 5) (n 5) (rk 5) (bn 5))) (k0_pay261 (a 6) (n 6) (rk 6) (bn 6))) (k0_pay261 (a 7) (n 7) (rk 7) (bn 7))) act (k0_pay1346 act) k0_pay1347

section
variable (arg14 : Memref sig .tc .vmem S2048x512 .f32) (arg15 : Memref sig .tc .vmem S256x512 .f32)
  (arg7 : Memref sig .tc .vmem S8x128x512 .bf16) (harg7 : arg7.IsWhole) (arg8 : Memref sig .tc .vmem S8x128x512 .bf16) (harg8 : arg8.IsWhole)
  (L2 : List (View.Piece (Elt F) S2048x512 .f32)) (L3 : List (View.Piece (Elt F) S256x512 .f32))
  (x5 x6 : Vec F S8x128x512 .bf16)

/-- Part of a row, read back. -/
def rowOf (p c : ℕ) (hp : p < 256) (hc : c < 4) : Vec F S1x128 .f32 :=
  arg15.view.readCov L3 (Rect.unit (s := S256x512) ![p, 128 * c] S1x128.size (inb_row p c hp hc)).toLoadRect

/-- Part of a table, read. -/
def tableOf (arg : Memref sig .tc .vmem S8x128x512 .bf16) (harg : arg.IsWhole) (x : Vec F S8x128x512 .bf16) (h c : ℕ) (hh : h < 8) (hc : c < 4) : Vec F S1x128x128 .bf16 :=
  View.readAt (Elt F) arg.view (Rect.unit (s := S8x128x512) ![h, 0, 128 * c] S1x128x128.size (inb_table h c hh hc)).toLoadRect (harg.unread x)

/-- One tile's weights from the scratch arrays and the tables. -/
def tileOf (r c : ℕ) (hr : r < 16) (hc : c < 4) : FVec F S128x128 .bf16 :=
  tile (fun h => rowOf arg15 L3 (2 * (16 * h.val + r)) c (by omega) hc) (fun h => rowOf arg15 L3 (2 * (16 * h.val + r) + 1) c (by omega) hc)
    (fun h => tableOf arg8 harg8 x6 h.val c h.isLt hc) (fun h => tableOf arg7 harg7 x5 h.val c h.isLt hc)
    (arg14.view.readCov L2 (Rect.unit (s := S2048x512) ![128 * r, 128 * c] S128x128.size (inb_tile r c hr hc)).toLoadRect)

/-- One tile as a piece. -/
def piece (r c : ℕ) (hr : r < 16) (hc : c < 4) : View.Piece (Elt F) S2048x512 .bf16 :=
  ⟨Rect.unit (s := S2048x512) ![128 * r, 128 * c] S128x128.size (inb_tile r c hr hc), tileOf arg14 arg15 arg7 harg7 arg8 harg8 L2 L3 x5 x6 r c hr hc⟩

end

/-- A list of pieces by their positions, the last position first. -/
def upto {P : Type} (N : ℕ) (f : (p : ℕ) → p < N → P) : (n : ℕ) → n ≤ N → List P
  | 0, _ => []
  | n + 1, h => f n h :: upto N f n (Nat.le_of_succ_le h)

/-- What lies in such a list is one of its pieces. -/
theorem mem_upto {P : Type} (N : ℕ) (f : (p : ℕ) → p < N → P) (x : P) : ∀ (n : ℕ) (h : n ≤ N), x ∈ upto N f n h → ∃ p hp, x = f p hp
  | 0, _, hx => absurd hx (List.not_mem_nil)
  | n + 1, h, hx => by
    rcases List.mem_cons.1 hx with e | hx
    · exact ⟨n, h, e⟩
    · exact mem_upto N f x n _ hx

/-- Each of its pieces lies in such a list. -/
theorem upto_mem {P : Type} (N : ℕ) (f : (p : ℕ) → p < N → P) (p : ℕ) (hp : p < N) : ∀ (n : ℕ) (h : n ≤ N), p < n → f p hp ∈ upto N f n h
  | 0, _, hn => absurd hn (Nat.not_lt_zero p)
  | n + 1, h, hn => by
    rcases Nat.lt_succ_iff_lt_or_eq.1 hn with hn | rfl
    · exact List.mem_cons_of_mem _ (upto_mem N f p hp n _ hn)
    · exact List.mem_cons_self

/-- Where a head's row of a grid point starts. -/
def off : ℕ → grid0.Coords → BitVec 32 → Fin 3 → ℕ
  | 0 => k0_off1
  | 1 => k0_off2
  | 2 => k0_off3
  | 3 => k0_off4
  | 4 => k0_off5
  | 5 => k0_off6
  | 6 => k0_off7
  | _ => k0_off8

/-- That start in numbers. -/
theorem off_eq (h : ℕ) (hh : h < 8) (i : grid0.Coords) (r : Fin 16) : off h i (BitVec.ofNat 32 r.val) = ![h, 16 * (i 1).val + r.val, 0] := by
  match h, hh with
  | 0, _ => exact k0_off1_eq i r
  | 1, _ => exact k0_off2_eq i r
  | 2, _ => exact k0_off3_eq i r
  | 3, _ => exact k0_off4_eq i r
  | 4, _ => exact k0_off5_eq i r
  | 5, _ => exact k0_off6_eq i r
  | 6, _ => exact k0_off7_eq i r
  | 7, _ => exact k0_off8_eq i r

/-- A head's row lies inside its array. -/
theorem inb_off (h : ℕ) (hh : h < 8) (i : grid0.Coords) (r : ℕ) (hr : r < 16) :
    ∀ a, off h i (BitVec.ofNat 32 r) a + S1x1x512.size a ≤ S8x128x512.size a := by
  match h, hh with
  | 0, _ => exact k0_off1_inb i ⟨r, hr⟩
  | 1, _ => exact k0_off2_inb i ⟨r, hr⟩
  | 2, _ => exact k0_off3_inb i ⟨r, hr⟩
  | 3, _ => exact k0_off4_inb i ⟨r, hr⟩
  | 4, _ => exact k0_off5_inb i ⟨r, hr⟩
  | 5, _ => exact k0_off6_inb i ⟨r, hr⟩
  | 6, _ => exact k0_off7_inb i ⟨r, hr⟩
  | 7, _ => exact k0_off8_inb i ⟨r, hr⟩

/-- One row of the scratch of rows lies inside it. -/
theorem inb_line (p : ℕ) (hp : p < 256) : ∀ a, (![p, 0] : Fin 2 → ℕ) a + S1x512.size a ≤ S256x512.size a := by
  intro a
  match a with
  | ⟨0, _⟩ => show p + 1 ≤ 256; omega
  | ⟨1, _⟩ => show 0 + 512 ≤ 512; omega

/-- A head's row, read from its array. -/
def lineOf (i : grid0.Coords) (arg : Memref sig .tc .vmem S8x128x512 .f32) (harg : arg.IsWhole) (x : Vec F S8x128x512 .f32) (p : ℕ) (hp : p < 256) : FVec F S1x512 .f32 :=
  k0_pay4 (View.readAt (Elt F) arg.view (Rect.unit (s := S8x128x512) (off (p / 32) i (BitVec.ofNat 32 (p / 2 % 16))) S1x1x512.size
    (inb_off (p / 32) (by omega) i (p / 2 % 16) (by omega))).toLoadRect (harg.unread x))

section
variable (c : Dev nD) (i : grid0.Coords) (arg2 : Memref sig .tc .vmem S512x1024 .bf16) (harg2 : arg2.IsWhole) (arg3 : Memref sig .tc .vmem S2048x1024 .bf16) (harg3 : arg3.IsWhole)
  (arg5 : Memref sig .tc .vmem S8x128x512 .f32) (harg5 : arg5.IsWhole) (arg6 : Memref sig .tc .vmem S8x128x512 .f32) (harg6 : arg6.IsWhole)
  (arg7 : Memref sig .tc .vmem S8x128x512 .bf16) (harg7 : arg7.IsWhole) (arg8 : Memref sig .tc .vmem S8x128x512 .bf16) (harg8 : arg8.IsWhole)
  (arg14 : Memref sig .tc .vmem S2048x512 .f32) (arg15 : Memref sig .tc .vmem S256x512 .f32)
  (x0 : Vec F S512x1024 .bf16) (x1 : Vec F S2048x1024 .bf16) (x3 x4 : Vec F S8x128x512 .f32) (x5 x6 : Vec F S8x128x512 .bf16)

/-- One row of the scratch of rows as a piece. -/
def linePiece (p : ℕ) (hp : p < 256) : View.Piece (Elt F) S256x512 .f32 :=
  ⟨Rect.unit (s := S256x512) ![p, 0] S1x512.size (inb_line p hp), bif p % 2 == 0 then lineOf i arg5 harg5 x3 p hp else lineOf i arg6 harg6 x4 p hp⟩

/-- The scratch of rows, all its pieces. -/
def lines : List (View.Piece (Elt F) S256x512 .f32) := upto 256 (linePiece i arg5 harg5 arg6 harg6 x3 x4) 256 (Nat.le_refl _)

/-- The scratch of activations, its piece. -/
def actPiece : List (View.Piece (Elt F) S2048x512 .f32) :=
  [⟨Rect.unit (s := S2048x512) ![0, 0] S2048x512.size inb_S2048x512_S2048x512_0_0,
    k0_pay260 (View.readAt (Elt F) arg3.view (Rect.unit (s := S2048x1024) ![0, 0] S2048x1024.size inb_S2048x1024_S2048x1024_0_0).toLoadRect (harg3.unread x1))
      (View.readAt (Elt F) arg2.view (Rect.unit (s := S512x1024) ![0, 0] S512x1024.size inb_S512x1024_S512x1024_0_0).toLoadRect (harg2.unread x0))⟩]

/-- The scratch of weights, all its pieces. -/
def pieces : List (View.Piece (Elt F) S2048x512 .bf16) :=
  upto 64 (fun k hk => piece arg14 arg15 arg7 harg7 arg8 harg8 (actPiece arg2 harg2 arg3 harg3 x0 x1) (lines i arg5 harg5 arg6 harg6 x3 x4) x5 x6 (k / 4) (k % 4)
    (by omega) (by omega)) 64 (Nat.le_refl _)

/-- What a grid point adds to the sum it is handed. -/
def stepOf (arg4 : Memref sig .tc .vmem S1024x2048 .bf16) (harg4 : arg4.IsWhole) (arg13 : Memref sig .tc .vmem S2048x512 .bf16) (x2 : Vec F S1024x2048 .bf16) (acc : Vec F S1024x512 .f32) : FVec F S1024x512 .f32 :=
  k0_pay1 (k0_pay1349 acc (View.readAt (Elt F) arg4.view (Rect.unit (s := S1024x2048) ![0, 0] S1024x2048.size inb_S1024x2048_S1024x2048_0_0).toLoadRect (harg4.unread x2))
    (arg13.view.readCov (pieces i arg2 harg2 arg3 harg3 arg5 harg5 arg6 harg6 arg7 harg7 arg8 harg8 arg14 arg15 x0 x1 x3 x4 x5 x6)
      (Rect.unit (s := S2048x512) ![0, 0] S2048x512.size inb_S2048x512_S2048x512_0_0).toLoadRect))

end

/-- What case A of the body stores of the sum. -/
theorem left_A (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : cond0_0 i) (hc1 : ¬cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 = ([⟨Rect.unit (s := S1024x512) ![0, 0] S1024x512.size inb_S1024x512_S1024x512_0_0, stepOf i arg2 harg2 arg3 harg3 arg5 harg5 arg6 harg6 arg7 harg7 arg8 harg8 arg14 arg15 x0 x1 x3 x4 x5 x6 arg4 harg4 arg13 x2 (arg12.view.readCov [⟨Rect.unit (s := S1024x512) ![0, 0] S1024x512.size inb_S1024x512_S1024x512_0_0, k0_pay3⟩] (Rect.unit (s := S1024x512) ![0, 0] S1024x512.size inb_S1024x512_S1024x512_0_0).toLoadRect)⟩, ⟨Rect.unit (s := S1024x512) ![0, 0] S1024x512.size inb_S1024x512_S1024x512_0_0, k0_pay3⟩] : List (View.Piece (Elt F) S1024x512 .f32)) := by
  sl_kernel_rfl

/-- What case B of the body stores of the sum. -/
theorem left_B (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : ¬cond0_0 i) (hc1 : ¬cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) (xs0 : Vec F S1024x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.1 = ([⟨Rect.unit (s := S1024x512) ![0, 0] S1024x512.size inb_S1024x512_S1024x512_0_0, stepOf i arg2 harg2 arg3 harg3 arg5 harg5 arg6 harg6 arg7 harg7 arg8 harg8 arg14 arg15 x0 x1 x3 x4 x5 x6 arg4 harg4 arg13 x2 (View.readAt (Elt F) arg12.view (Rect.unit (s := S1024x512) ![0, 0] S1024x512.size inb_S1024x512_S1024x512_0_0).toLoadRect (harg12.unread xs0))⟩] : List (View.Piece (Elt F) S1024x512 .f32)) := by
  sl_kernel_rfl

/-- What case C of the body stores of the sum. -/
theorem left_C (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : ¬cond0_0 i) (hc1 : cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) (xs0 : Vec F S1024x512 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).2.1 = ([⟨Rect.unit (s := S1024x512) ![0, 0] S1024x512.size inb_S1024x512_S1024x512_0_0, stepOf i arg2 harg2 arg3 harg3 arg5 harg5 arg6 harg6 arg7 harg7 arg8 harg8 arg14 arg15 x0 x1 x3 x4 x5 x6 arg4 harg4 arg13 x2 (View.readAt (Elt F) arg12.view (Rect.unit (s := S1024x512) ![0, 0] S1024x512.size inb_S1024x512_S1024x512_0_0).toLoadRect (harg12.unread xs0))⟩] : List (View.Piece (Elt F) S1024x512 .f32)) := by
  sl_kernel_rfl

/-- What case C of the body stores of the result. -/
theorem result_C (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : ¬cond0_0 i) (hc1 : cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) (xs0 : Vec F S1024x512 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0).1 = ([⟨Rect.unit (s := S512x1024) ![0, 0] S512x1024.size inb_S512x1024_S512x1024_0_0,
      k0_pay2 (View.readAt (Elt F) arg9.view (Rect.unit (s := S512x1024) ![0, 0] S512x1024.size inb_S512x1024_S512x1024_0_0).toLoadRect (harg9.unread x7))
        (arg12.view.readCov [⟨Rect.unit (s := S1024x512) ![0, 0] S1024x512.size inb_S1024x512_S1024x512_0_0, stepOf i arg2 harg2 arg3 harg3 arg5 harg5 arg6 harg6 arg7 harg7 arg8 harg8 arg14 arg15 x0 x1 x3 x4 x5 x6 arg4 harg4 arg13 x2 (View.readAt (Elt F) arg12.view (Rect.unit (s := S1024x512) ![0, 0] S1024x512.size inb_S1024x512_S1024x512_0_0).toLoadRect (harg12.unread xs0))⟩] (Rect.unit (s := S1024x512) ![0, 0] S1024x512.size inb_S1024x512_S1024x512_0_0).toLoadRect)
        (View.readAt (Elt F) arg10.view (Rect.unit (s := S1x1024) ![0, 0] S1x1024.size inb_S1x1024_S1x1024_0_0).toLoadRect (harg10.unread x8))⟩] : List (View.Piece (Elt F) S512x1024 .f32)) := by
  sl_kernel_rfl

/-- The corner of a flat block is the origin. -/
theorem corner2 : (![0, 0] : Fin 2 → Nat) = fun _ => 0 := by
  funext a
  match a with
  | ⟨0, _⟩ => rfl
  | ⟨1, _⟩ => rfl

/-- What case A of the body leaves of the sum. -/
theorem sum_A (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : cond0_0 i) (hc1 : ¬cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = stepOf i arg2 harg2 arg3 harg3 arg5 harg5 arg6 harg6 arg7 harg7 arg8 harg8 arg14 arg15 x0 x1 x3 x4 x5 x6 arg4 harg4 arg13 x2 k0_pay3 := by
  unfold sout0_A_0
  rw [View.read_writes_junk_eq_canon, left_A, View.canon_cons_unit_zero (S := S1024x512) corner2]
  rw [View.readCov_unit_zero (S := S1024x512) arg12.view corner2]

/-- What case B of the body leaves of the sum. -/
theorem sum_B (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : ¬cond0_0 i) (hc1 : ¬cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) (xs0 : Vec F S1024x512 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 = stepOf i arg2 harg2 arg3 harg3 arg5 harg5 arg6 harg6 arg7 harg7 arg8 harg8 arg14 arg15 x0 x1 x3 x4 x5 x6 arg4 harg4 arg13 x2 xs0 := by
  unfold sout0_B_0
  rw [View.read_writes_junk_eq_canon, left_B, View.canon_unit_zero (S := S1024x512) corner2]
  rw [View.readAt_eq_ld, harg12.read_unread, View.ld_unit_zero (S := S1024x512) corner2]

/-- What case C of the body leaves of the sum. -/
theorem sum_C (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : ¬cond0_0 i) (hc1 : cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) (xs0 : Vec F S1024x512 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 = stepOf i arg2 harg2 arg3 harg3 arg5 harg5 arg6 harg6 arg7 harg7 arg8 harg8 arg14 arg15 x0 x1 x3 x4 x5 x6 arg4 harg4 arg13 x2 xs0 := by
  unfold sout0_C_0
  rw [View.read_writes_junk_eq_canon, left_C, View.canon_unit_zero (S := S1024x512) corner2]
  rw [View.readAt_eq_ld, harg12.read_unread, View.ld_unit_zero (S := S1024x512) corner2]

/-- What case C of the body leaves of the result. -/
theorem out_C (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S256x512 .f32) (harg15 : arg15.IsWhole) (hc0 : ¬cond0_0 i) (hc1 : cond0_1 i)
    (x0 : Vec F S512x1024 .bf16) (x1 : Vec F S2048x1024 .bf16) (x2 : Vec F S1024x2048 .bf16) (x3 : Vec F S8x128x512 .f32) (x4 : Vec F S8x128x512 .f32) (x5 : Vec F S8x128x512 .bf16) (x6 : Vec F S8x128x512 .bf16) (x7 : Vec F S512x1024 .f32) (x8 : Vec F S1x1024 .f32) (xs0 : Vec F S1024x512 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 = k0_pay2 x7 (stepOf i arg2 harg2 arg3 harg3 arg5 harg5 arg6 harg6 arg7 harg7 arg8 harg8 arg14 arg15 x0 x1 x3 x4 x5 x6 arg4 harg4 arg13 x2 xs0) x8 := by
  unfold out0_C_9
  rw [View.read_writes_junk_eq_canon, result_C, View.canon_unit_zero (S := S512x1024) corner2, View.readCov_unit_zero (S := S1024x512) arg12.view corner2]
  rw [View.readAt_eq_ld, View.readAt_eq_ld arg12.view, View.readAt_eq_ld arg10.view, harg9.read_unread, harg10.read_unread, harg12.read_unread,
    View.ld_unit_zero (S := S1024x512) corner2, View.ld_unit_zero (S := S512x1024) corner2, View.ld_unit_zero (S := S1x1024) corner2]

end Cert.PeerIdeal.Rows
-- ==== Proof.PeerRef.lean ====
/- The experts' call, read entry by entry: the reference's steps as whole arrays. -/
module

public import proofs.«01_k».proof.Proof.Gen.PeerReferenceIdeal
public import proofs.«01_k».proof.Proof.Gen.PeerReferenceIdeal.Run
public import Idealize.ShloMosaic.Lib.Pointwise

@[expose] public section

set_option maxRecDepth 3000

noncomputable section

namespace Cert.Experts

open Idealize.ShloMosaic

/-- The smooth threshold of one activation. -/
def bend (x : EReal) : EReal :=
  x * (Ideal.ofBits FTy.f32 1056964608#32 * (1 + Ideal.tanh (Ideal.ofBits FTy.f32 1061962282#32 * (x + Ideal.ofBits FTy.f32 1027024659#32 * (x * (x * x))))))

/-- One head's share of one expert's gate. -/
def share (a n r b : EReal) : EReal := a * if r < n then b else 0

end Cert.Experts

namespace Cert.PeerReferenceIdeal.Rows

open Cert.PeerReferenceIdeal Cert.PeerReferenceIdeal.Gen Idealize.ShloMosaic Idealize.ShloMosaic.TcCoe Cert.Experts

abbrev Normed := FVec Ideal S16384x1024 .bf16
abbrev Full := FVec Ideal S16384x1024 .f32
abbrev Ups := FVec Ideal S16384x1024 .bf16
abbrev Downs := FVec Ideal S1024x16384 .bf16
abbrev Wide := FVec Ideal S16384x16384 .f32
abbrev Table := FVec Ideal S8x128x16384 .f32
abbrev Small := FVec Ideal S8x128x16384 .bf16
abbrev Gate := FVec Ideal S8x128x128x16384 .f32

/-- Every row's activation at every expert. -/
def acts (hn : Normed) (pu : Ups) : Wide :=
  Host.dotGeneral dot_S16384x1024_S1024x16384_S16384x16384_1_0_0_1_n_n none (extf .f32 hn bitsLt_bf16_f32) (transpose S1024x16384 [1, 0] (extf .f32 pu bitsLt_bf16_f32) transposes_S16384x1024_S1024x16384_1_0)

/-- A number everywhere. -/
def all (w : BitVec 32) : Wide := broadcastInDim S16384x16384 ![] bcast_S_S16384x16384 (constant S_ .f32 w)

/-- The smooth threshold of every activation. -/
def gelu (x : Wide) : Wide :=
  mulf x (mulf (all 0x3F000000#32) (addf (all 0x3F800000#32) (Host.tanh (mulf (all 0x3F4C422A#32) (addf x (mulf (all 0x3D372713#32) (mulf (mulf x x) x)))))))

/-- A table by head and first key, at every second key. -/
def byFirst (a : Table) : Gate :=
  broadcastInDim S8x128x128x16384 ![0, 1, 2, 3] bcast_S8x128x1x16384_S8x128x128x16384_0_1_2_3 (broadcastInDim S8x128x1x16384 ![0, 1, 3] bcast_S8x128x16384_S8x128x1x16384_0_1_3 a)

/-- A table by head and second key, at every first key. -/
def bySecond (b : Small) : Gate :=
  broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 b bitsLt_bf16_f32))

/-- Each head's share of an expert's gate. -/
def shares (an nn : Table) (bn rk : Small) : Gate :=
  mulf (byFirst an) (select (cmpf .olt (bySecond rk) (byFirst nn)) (bySecond bn) (broadcastInDim S8x128x128x16384 ![] bcast_S_S8x128x128x16384 (id (constant S_ .f32 0x00000000#32))))

/-- Every row's gate at every expert. -/
def gates (an nn : Table) (bn rk : Small) : Wide :=
  transpose S16384x16384 [1, 0] (shapeCast _ (Host.reduceAdd (shares an nn bn rk) (constant S_ .f32 0x00000000#32) reducesTo_S8x128x128x16384_S128x128x16384_d0 h_S_) shapeCasts_S128x128x16384_S16384x16384) transposes_S16384x16384_S16384x16384_1_0

/-- Every row's weight at every expert. -/
def weights (hn : Normed) (pu : Ups) (an nn : Table) (bn rk : Small) : Wide := mulf (gelu (acts hn pu)) (gates an nn bn rk)

/-- The rows plus the experts' outputs under the weights. -/
def summed (w : Wide) (pvt : Downs) (h : Full) : Full :=
  addf h (Host.dotGeneral dot_S16384x16384_S16384x1024_S16384x1024_1_0_0_1_n_n none w (transpose S16384x1024 [1, 0] (extf .f32 pvt bitsLt_bf16_f32) transposes_S1024x16384_S16384x1024_1_0))

/-- Rows scaled to unit mean square, times the gains. -/
def scaled (v : Full) (g : FVec Ideal S1x1024 .f32) : Full :=
  mulf (mulf v (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- The reference's result. -/
theorem res_eq (m : (ℓ : Loc nD τ sig) → Buf (Elt Ideal) ℓ) (c : Dev nD) :
    Cert.PeerReferenceIdeal.Value.res_main_v48 (F := Ideal) m c
      = scaled (summed (weights (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)))
          (m ((c.tc : Thread nD τ).loc main_arg2)) (m ((c.tc : Thread nD τ).loc main_arg7))) (m ((c.tc : Thread nD τ).loc main_arg8)) := rfl

/-- A head's share, at an index. -/
theorem shares_at (an nn : Table) (bn rk : Small) (h : Fin 8) (k l : Fin 128) (n : Fin 16384) :
    shares an nn bn rk (ix4 h k l n) = share (an (ix3 h k n)) (nn (ix3 h k n)) (rk (ix3 h l n)) (bn (ix3 h l n)) := by
  pointwise [shares, byFirst, bySecond]
  have z : id (constant (F := Ideal) S_ FTy.f32 0#32) ix0 = 0 := by
    show constant (F := Ideal) S_ FTy.f32 0#32 ix0 = 0
    pointwise
  rw [z]
  rfl

/-- A gate, at an index. -/
theorem gates_at (an nn : Table) (bn rk : Small) (n e : Fin 16384) :
    gates an nn bn rk (ix2 n e) = ∑ h : Fin 8, share (an (ix3 h ⟨e.val / 128, by omega⟩ n)) (nn (ix3 h ⟨e.val / 128, by omega⟩ n))
      (rk (ix3 h ⟨e.val % 128, by omega⟩ n)) (bn (ix3 h ⟨e.val % 128, by omega⟩ n)) := by
  pointwise [gates]
  simp only [shares_at]

/-- A weight, at an index. -/
theorem weights_at (hn : Normed) (pu : Ups) (an nn : Table) (bn rk : Small) (n e : Fin 16384) :
    weights hn pu an nn bn rk (ix2 n e) = bend (∑ d : Fin 1024, hn (ix2 n d) * pu (ix2 e d)) *
      ∑ h : Fin 8, share (an (ix3 h ⟨e.val / 128, by omega⟩ n)) (nn (ix3 h ⟨e.val / 128, by omega⟩ n))
        (rk (ix3 h ⟨e.val % 128, by omega⟩ n)) (bn (ix3 h ⟨e.val % 128, by omega⟩ n)) := by
  pointwise [weights, gelu, all, acts]
  rw [gates_at, mul_comm ((∑ x, hn (ix2 n x) * pu (ix2 e x)) * ∑ x, hn (ix2 n x) * pu (ix2 e x))]
  rfl

/-- A row after the sum, at an index. -/
theorem summed_at (w : Wide) (pvt : Downs) (h : Full) (n : Fin 16384) (d : Fin 1024) :
    summed w pvt h (ix2 n d) = h (ix2 n d) + ∑ e : Fin 16384, w (ix2 n e) * pvt (ix2 d e) := by
  pointwise [summed]

/-- A scaled row, at an index. -/
theorem scaled_at (v : Full) (g : FVec Ideal S1x1024 .f32) (n : Fin 16384) (d : Fin 1024) :
    scaled v g (ix2 n d) = v (ix2 n d) * Ideal.rsqrt (Ideal.div (∑ x : Fin 1024, v (ix2 n x) * v (ix2 n x)) (Ideal.ofBits FTy.f32 1149239296#32) + Ideal.ofBits FTy.f32 897988541#32) * g (ix2 0 d) := by
  pointwise [scaled]

end Cert.PeerReferenceIdeal.Rows

end
-- ==== Proof.PeerPay.lean ====
/- The experts' call: each value of the kernel's body at one index. -/
module

public import proofs.«01_k».proof.Proof.PeerTile
public import proofs.«01_k».proof.Proof.PeerRef
public import Idealize.ShloMosaic.Lib.Pointwise

@[expose] public section

set_option maxRecDepth 3000

noncomputable section

namespace Cert.PeerIdeal.Rows

open Cert.PeerIdeal Cert.PeerIdeal.Gen Idealize.ShloMosaic Idealize.ShloMosaic.TcCoe Cert.Experts

/-- One head's shares, at an index. -/
theorem pay261_at (a n : Vec Ideal S1x128 .f32) (rk bn : Vec Ideal S1x128x128 .bf16) (k : Fin 128) (l : Fin 128) :
    k0_pay261 (F := Ideal) a n rk bn (ix3 (⟨k.val / 16, by omega⟩ : Fin 8) (⟨k.val % 16, by omega⟩ : Fin 16) l)
      = share (a (ix2 0 l)) (n (ix2 0 l)) (rk (ix3 0 k l)) (bn (ix3 0 k l)) := by
  pointwise [k0_pay261]
  rfl

/-- One tile's weights, at an index. -/
theorem tile_at (a n : Fin 8 → Vec Ideal S1x128 .f32) (rk bn : Fin 8 → Vec Ideal S1x128x128 .bf16) (x : Vec Ideal S128x128 .f32) (k : Fin 128) (l : Fin 128) :
    tile (F := Ideal) a n rk bn x (ix2 k l) = bend (x (ix2 k l)) * ∑ h : Fin 8, share (a h (ix2 0 l)) (n h (ix2 0 l)) (rk h (ix3 0 k l)) (bn h (ix3 0 k l)) := by
  pointwise [tile, k0_pay1348, k0_pay1346, k0_pay1347]
  simp only [pay261_at, Fin.sum_univ_eight]
  rfl

/-- An activation, at an index. -/
theorem pay260_at (u : Vec Ideal S2048x1024 .bf16) (x : Vec Ideal S512x1024 .bf16) (k : Fin 2048) (l : Fin 512) :
    k0_pay260 (F := Ideal) u x (ix2 k l) = ∑ d : Fin 1024, x (ix2 l d) * u (ix2 k d) := by
  pointwise [k0_pay260]
  exact Finset.sum_congr rfl fun d _ => mul_comm _ _

/-- A row laid flat, at an index. -/
theorem pay4_at (x : Vec Ideal S1x1x512 .f32) (l : Fin 512) : k0_pay4 (F := Ideal) x (ix2 0 l) = x (ix3 0 0 l) := by
  pointwise [k0_pay4]

/-- A grid point's step, at an index. -/
theorem add_at (x : Vec Ideal S1024x512 .f32) (v : Vec Ideal S1024x2048 .bf16) (w : Vec Ideal S2048x512 .bf16) (d : Fin 1024) (l : Fin 512) :
    k0_pay1 (F := Ideal) (k0_pay1349 (F := Ideal) x v w) (ix2 d l) = x (ix2 d l) + ∑ k : Fin 2048, w (ix2 k l) * v (ix2 d k) := by
  pointwise [k0_pay1, k0_pay1349]
  exact congrArg _ (Finset.sum_congr rfl fun d _ => mul_comm _ _)

/-- The empty sum, at an index. -/
theorem pay3_at (d : Fin 1024) (l : Fin 512) : k0_pay3 (F := Ideal) (ix2 d l) = 0 := by
  pointwise [k0_pay3]

/-- The result, at an index. -/
theorem pay2_at (h : Vec Ideal S512x1024 .f32) (acc : Vec Ideal S1024x512 .f32) (g : Vec Ideal S1x1024 .f32) (l : Fin 512) (n : Fin 16384)
    (V : FVec Ideal Cert.PeerReferenceIdeal.S16384x1024 .f32) (hV : ∀ d : Fin 1024, h (ix2 l d) + acc (ix2 d l) = V (ix2 n d)) (d : Fin 1024) :
    k0_pay2 (F := Ideal) h acc g (ix2 l d) = Cert.PeerReferenceIdeal.Rows.scaled V g (ix2 n d) := by
  rw [Cert.PeerReferenceIdeal.Rows.scaled_at]
  pointwise [k0_pay2]
  simp only [hV]

/-- The rows the body gathers, by position. -/
def lineVal (e : Fin 8) (x3 x4 : Vec Ideal S8x128x512 .f32) (p : Fin 256) (l : Fin 512) : EReal :=
  (bif p.val % 2 == 0 then x3 else x4) (ix3 (⟨p.val / 32, by omega⟩ : Fin 8) (⟨16 * e.val + p.val / 2 % 16, by omega⟩ : Fin 128) l)

/-- The weight of one expert of a block for one row of a block. -/
def blockVal (e : Fin 8) (x0 : Vec Ideal S512x1024 .bf16) (x1 : Vec Ideal S2048x1024 .bf16) (x3 x4 : Vec Ideal S8x128x512 .f32) (x5 x6 : Vec Ideal S8x128x512 .bf16)
    (k : Fin 2048) (l : Fin 512) : EReal :=
  bend (∑ d : Fin 1024, x0 (ix2 l d) * x1 (ix2 k d)) * ∑ h : Fin 8, share (x3 (ix3 h (⟨16 * e.val + k.val / 128, by omega⟩ : Fin 128) l)) (x4 (ix3 h (⟨16 * e.val + k.val / 128, by omega⟩ : Fin 128) l))
    (x6 (ix3 h (⟨k.val % 128, by omega⟩ : Fin 128) l)) (x5 (ix3 h (⟨k.val % 128, by omega⟩ : Fin 128) l))

/-- Part of a table, at an index. -/
theorem tableOf_at (arg : Memref sig .tc .vmem S8x128x512 .bf16) (harg : arg.IsWhole) (x : Vec Ideal S8x128x512 .bf16) (h : Fin 8) (c : ℕ) (hc : c < 4) (k l : Fin 128) :
    tableOf (F := Ideal) arg harg x h.val c h.isLt hc (ix3 0 k l) = x (ix3 h k ⟨128 * c + l.val, by omega⟩) := by
  unfold tableOf
  rw [View.readAt_eq_ld, harg.read_unread]
  refine congrArg x (funext fun a => Fin.ext ?_)
  match a with
  | ⟨0, _⟩ => show h.val + 1 * 0 = h.val; omega
  | ⟨1, _⟩ => show 0 + 1 * k.val = k.val; omega
  | ⟨2, _⟩ => show 128 * c + 1 * l.val = 128 * c + l.val; omega

/-- An even position holds a row of the first array. -/
theorem lineVal_even (e : Fin 8) (x3 x4 : Vec Ideal S8x128x512 .f32) (h : Fin 8) (r : ℕ) (hr : r < 16) (hp : 2 * (16 * h.val + r) < 256) (l : Fin 512) :
    lineVal e x3 x4 ⟨2 * (16 * h.val + r), hp⟩ l = x3 (ix3 h (⟨16 * e.val + r, by omega⟩ : Fin 128) l) := by
  unfold lineVal
  have e0 : (2 * (16 * h.val + r) % 2 == 0) = true := by rw [beq_iff_eq]; omega
  have e1 : (⟨2 * (16 * h.val + r) / 32, by omega⟩ : Fin 8) = h := Fin.ext (by show 2 * (16 * h.val + r) / 32 = h.val; omega)
  have e2 : (⟨16 * e.val + 2 * (16 * h.val + r) / 2 % 16, by omega⟩ : Fin 128) = ⟨16 * e.val + r, by omega⟩ := Fin.ext (by
    show 16 * e.val + 2 * (16 * h.val + r) / 2 % 16 = 16 * e.val + r; omega)
  show (bif 2 * (16 * h.val + r) % 2 == 0 then x3 else x4) (ix3 (⟨2 * (16 * h.val + r) / 32, _⟩ : Fin 8) (⟨16 * e.val + 2 * (16 * h.val + r) / 2 % 16, _⟩ : Fin 128) l) = _
  rw [e0, e1, e2]
  rfl

/-- An odd position holds a row of the second array. -/
theorem lineVal_odd (e : Fin 8) (x3 x4 : Vec Ideal S8x128x512 .f32) (h : Fin 8) (r : ℕ) (hr : r < 16) (hp : 2 * (16 * h.val + r) + 1 < 256) (l : Fin 512) :
    lineVal e x3 x4 ⟨2 * (16 * h.val + r) + 1, hp⟩ l = x4 (ix3 h (⟨16 * e.val + r, by omega⟩ : Fin 128) l) := by
  unfold lineVal
  have e0 : ((2 * (16 * h.val + r) + 1) % 2 == 0) = false := by rw [beq_eq_false_iff_ne]; omega
  have e1 : (⟨(2 * (16 * h.val + r) + 1) / 32, by omega⟩ : Fin 8) = h := Fin.ext (by show (2 * (16 * h.val + r) + 1) / 32 = h.val; omega)
  have e2 : (⟨16 * e.val + (2 * (16 * h.val + r) + 1) / 2 % 16, by omega⟩ : Fin 128) = ⟨16 * e.val + r, by omega⟩ := Fin.ext (by
    show 16 * e.val + (2 * (16 * h.val + r) + 1) / 2 % 16 = 16 * e.val + r; omega)
  show (bif (2 * (16 * h.val + r) + 1) % 2 == 0 then x3 else x4) (ix3 (⟨(2 * (16 * h.val + r) + 1) / 32, _⟩ : Fin 8) (⟨16 * e.val + (2 * (16 * h.val + r) + 1) / 2 % 16, _⟩ : Fin 128) l) = _
  rw [e0, e1, e2]
  rfl

/-- Part of the activations, at an index. -/
theorem act_at (arg2 : Memref sig .tc .vmem S512x1024 .bf16) (harg2 : arg2.IsWhole) (arg3 : Memref sig .tc .vmem S2048x1024 .bf16) (harg3 : arg3.IsWhole)
    (arg14 : Memref sig .tc .vmem S2048x512 .f32) (x0 : Vec Ideal S512x1024 .bf16) (x1 : Vec Ideal S2048x1024 .bf16) (r c : ℕ) (hr : r < 16) (hc : c < 4) (k l : Fin 128) :
    arg14.view.readCov (actPiece (F := Ideal) arg2 harg2 arg3 harg3 x0 x1) (Rect.unit (s := S2048x512) ![128 * r, 128 * c] S128x128.size (inb_tile r c hr hc)).toLoadRect (ix2 k l)
      = ∑ d : Fin 1024, x0 (ix2 (⟨128 * c + l.val, by omega⟩ : Fin 512) d) * x1 (ix2 (⟨128 * r + k.val, by omega⟩ : Fin 2048) d) := by
  unfold actPiece
  rw [View.readCov_eq_canon', View.canon_unit_zero (S := S2048x512) corner2]
  rw [View.readAt_eq_ld, View.readAt_eq_ld arg2.view, harg2.read_unread, harg3.read_unread, View.ld_unit_zero (S := S2048x1024) corner2, View.ld_unit_zero (S := S512x1024) corner2]
  refine Eq.trans (congrArg _ ?_) (pay260_at x1 x0 ⟨128 * r + k.val, by omega⟩ ⟨128 * c + l.val, by omega⟩)
  refine funext fun a => Fin.ext ?_
  match a with
  | ⟨0, _⟩ => show 128 * r + 1 * k.val = 128 * r + k.val; omega
  | ⟨1, _⟩ => show 128 * c + 1 * l.val = 128 * c + l.val; omega

section
variable (i : grid0.Coords) (e : Fin 8) (he : (i 1).val = e.val)

include he in
/-- A head's row as read, at an index. -/
theorem line_at (arg : Memref sig .tc .vmem S8x128x512 .f32) (harg : arg.IsWhole) (x : Vec Ideal S8x128x512 .f32) (p : ℕ) (hp : p < 256) (l : Fin 512) :
    lineOf (F := Ideal) i arg harg x p hp (ix2 0 l) = x (ix3 (⟨p / 32, by omega⟩ : Fin 8) (⟨16 * e.val + p / 2 % 16, by omega⟩ : Fin 128) l) := by
  unfold lineOf
  rw [pay4_at, View.readAt_eq_ld, harg.read_unread]
  have o := off_eq (p / 32) (by omega) i ⟨p / 2 % 16, by omega⟩
  refine congrArg x (funext fun a => Fin.ext ?_)
  match a with
  | ⟨0, _⟩ =>
    show off (p / 32) i (BitVec.ofNat 32 (p / 2 % 16)) 0 + 1 * 0 = p / 32
    have := congrFun o 0
    change off (p / 32) i (BitVec.ofNat 32 (p / 2 % 16)) 0 = p / 32 at this
    omega
  | ⟨1, _⟩ =>
    show off (p / 32) i (BitVec.ofNat 32 (p / 2 % 16)) 1 + 1 * 0 = 16 * e.val + p / 2 % 16
    have := congrFun o 1
    change off (p / 32) i (BitVec.ofNat 32 (p / 2 % 16)) 1 = 16 * (i 1).val + p / 2 % 16 at this
    omega
  | ⟨2, _⟩ =>
    show off (p / 32) i (BitVec.ofNat 32 (p / 2 % 16)) 2 + 1 * l.val = l.val
    have := congrFun o 2
    change off (p / 32) i (BitVec.ofNat 32 (p / 2 % 16)) 2 = 0 at this
    omega

variable (arg2 : Memref sig .tc .vmem S512x1024 .bf16) (harg2 : arg2.IsWhole) (arg3 : Memref sig .tc .vmem S2048x1024 .bf16) (harg3 : arg3.IsWhole)
  (arg5 : Memref sig .tc .vmem S8x128x512 .f32) (harg5 : arg5.IsWhole) (arg6 : Memref sig .tc .vmem S8x128x512 .f32) (harg6 : arg6.IsWhole)
  (arg7 : Memref sig .tc .vmem S8x128x512 .bf16) (harg7 : arg7.IsWhole) (arg8 : Memref sig .tc .vmem S8x128x512 .bf16) (harg8 : arg8.IsWhole)
  (arg14 : Memref sig .tc .vmem S2048x512 .f32) (arg15 : Memref sig .tc .vmem S256x512 .f32)
  (x0 : Vec Ideal S512x1024 .bf16) (x1 : Vec Ideal S2048x1024 .bf16) (x3 x4 : Vec Ideal S8x128x512 .f32) (x5 x6 : Vec Ideal S8x128x512 .bf16)

include he in
/-- One stored row, at an index. -/
theorem linePiece_at (p : ℕ) (hp : p < 256) (x : S1x512.Idx) :
    (bif p % 2 == 0 then lineOf (F := Ideal) i arg5 harg5 x3 p hp else lineOf (F := Ideal) i arg6 harg6 x4 p hp) x
      = lineVal e x3 x4 ((Rect.unit (s := S256x512) ![p, 0] S1x512.size (inb_line p hp)).emb x 0) ((Rect.unit (s := S256x512) ![p, 0] S1x512.size (inb_line p hp)).emb x 1) := by
  have h0 : (show Fin 1 from x 0) = (0 : Fin 1) := Subsingleton.elim _ _
  have hx : x = ix2 (0 : Fin 1) (x 1 : Fin 512) := (eq_ix2 (n0 := 1) (n1 := 512) x).trans (congrArg (fun a : Fin 1 => ix2 a (x 1 : Fin 512)) h0)
  have e0 : (Rect.unit (s := S256x512) ![p, 0] S1x512.size (inb_line p hp)).emb x 0 = (⟨p, hp⟩ : Fin 256) := Fin.ext (by
    have h := congrArg Fin.val h0
    change (x 0).val = 0 at h
    show p + 1 * (x 0).val = p
    omega)
  have e1 : (Rect.unit (s := S256x512) ![p, 0] S1x512.size (inb_line p hp)).emb x 1 = (x 1 : Fin 512) := Fin.ext (by
    show 0 + 1 * (x 1).val = (x 1).val
    omega)
  rw [e0, e1]
  unfold lineVal
  show _ = (bif p % 2 == 0 then x3 else x4) _
  cases p % 2 == 0
  · exact (congrArg _ hx).trans (line_at i e he arg6 harg6 x4 p hp (x 1))
  · exact (congrArg _ hx).trans (line_at i e he arg5 harg5 x3 p hp (x 1))

include he in
/-- The scratch of rows, at an index. -/
theorem lines_at (p : Fin 256) (l : Fin 512) :
    View.canon (lines (F := Ideal) i arg5 harg5 arg6 harg6 x3 x4) (ix2 p l) = lineVal e x3 x4 p l := by
  refine View.canon_apply_of_pieces (Val := Elt Ideal) (S := S256x512) (e := .f32) (fun y => lineVal e x3 x4 (y 0) (y 1)) _ ?_ (ix2 p l) ?_
  · intro q hq x
    obtain ⟨p, hp, rfl⟩ := mem_upto 256 _ q _ _ hq
    exact linePiece_at i e he arg5 harg5 arg6 harg6 x3 x4 p hp x
  · refine ⟨_, upto_mem 256 _ p.val p.isLt 256 (Nat.le_refl _) p.isLt, ?_⟩
    refine (Rect.mem_set_unit (inb := inb_line p.val p.isLt)).2 ?_
    intro a
    match a with
    | ⟨0, _⟩ => show p.val ≤ p.val ∧ p.val < p.val + 1; omega
    | ⟨1, _⟩ => show 0 ≤ l.val ∧ l.val < 0 + 512; omega

include he in
/-- Part of a row read back, at an index. -/
theorem rowOf_at (p c : ℕ) (hp : p < 256) (hc : c < 4) (l : Fin 128) :
    rowOf (F := Ideal) arg15 (lines i arg5 harg5 arg6 harg6 x3 x4) p c hp hc (ix2 0 l) = lineVal e x3 x4 ⟨p, hp⟩ ⟨128 * c + l.val, by omega⟩ := by
  unfold rowOf
  rw [View.readCov_eq_canon']
  refine Eq.trans (congrArg _ ?_) (lines_at i e he arg5 harg5 arg6 harg6 x3 x4 ⟨p, hp⟩ ⟨128 * c + l.val, by omega⟩)
  refine funext fun a => Fin.ext ?_
  match a with
  | ⟨0, _⟩ => show p + 1 * 0 = p; omega
  | ⟨1, _⟩ => show 128 * c + 1 * l.val = 128 * c + l.val; omega

include he in
/-- One tile of the scratch of weights, at an index. -/
theorem tileOf_at (r c : ℕ) (hr : r < 16) (hc : c < 4) (k l : Fin 128) (K : Fin 2048) (L : Fin 512) (hK : K.val = 128 * r + k.val) (hL : L.val = 128 * c + l.val) :
    tileOf (F := Ideal) arg14 arg15 arg7 harg7 arg8 harg8 (actPiece arg2 harg2 arg3 harg3 x0 x1) (lines i arg5 harg5 arg6 harg6 x3 x4) x5 x6 r c hr hc (ix2 k l)
      = blockVal e x0 x1 x3 x4 x5 x6 K L := by
  unfold tileOf
  rw [tile_at, act_at (hr := hr) (hc := hc)]
  simp only [rowOf_at i e he, tableOf_at, lineVal_even e x3 x4 _ r hr, lineVal_odd e x3 x4 _ r hr]
  unfold blockVal
  have eK : (⟨128 * r + k.val, by omega⟩ : Fin 2048) = K := Fin.ext hK.symm
  have eL : (⟨128 * c + l.val, by omega⟩ : Fin 512) = L := Fin.ext hL.symm
  have er : (⟨16 * e.val + r, by omega⟩ : Fin 128) = ⟨16 * e.val + K.val / 128, by omega⟩ := Fin.ext (by show 16 * e.val + r = 16 * e.val + K.val / 128; omega)
  have ek : k = ⟨K.val % 128, by omega⟩ := Fin.ext (by show k.val = K.val % 128; omega)
  simp only [eK, eL, er, ← ek]

include he in
/-- The scratch of weights, at an index. -/
theorem pieces_at (k : Fin 2048) (l : Fin 512) :
    View.canon (pieces (F := Ideal) i arg2 harg2 arg3 harg3 arg5 harg5 arg6 harg6 arg7 harg7 arg8 harg8 arg14 arg15 x0 x1 x3 x4 x5 x6) (ix2 k l)
      = blockVal e x0 x1 x3 x4 x5 x6 k l := by
  refine View.canon_apply_of_pieces (Val := Elt Ideal) (S := S2048x512) (e := .bf16) (fun y => blockVal e x0 x1 x3 x4 x5 x6 (y 0) (y 1)) _ ?_ (ix2 k l) ?_
  · intro q hq x
    obtain ⟨p, hp, rfl⟩ := mem_upto 64 _ q _ _ hq
    refine (congrArg _ (eq_ix2 (n0 := 128) (n1 := 128) x)).trans ?_
    refine tileOf_at i e he arg2 harg2 arg3 harg3 arg5 harg5 arg6 harg6 arg7 harg7 arg8 harg8 arg14 arg15 x0 x1 x3 x4 x5 x6 (p / 4) (p % 4) (by omega) (by omega) (x 0) (x 1) _ _ ?_ ?_
    · show 128 * (p / 4) + 1 * (x 0).val = 128 * (p / 4) + (x 0).val; omega
    · show 128 * (p % 4) + 1 * (x 1).val = 128 * (p % 4) + (x 1).val; omega
  · have hk := k.isLt
    have hl := l.isLt
    refine ⟨_, upto_mem 64 _ (4 * (k.val / 128) + l.val / 128) (by omega) 64 (Nat.le_refl _) (by omega), ?_⟩
    refine (Rect.mem_set_unit (inb := inb_tile _ _ (by omega) (by omega))).2 ?_
    intro a
    match a with
    | ⟨0, _⟩ => show 128 * ((4 * (k.val / 128) + l.val / 128) / 4) ≤ k.val ∧ k.val < 128 * ((4 * (k.val / 128) + l.val / 128) / 4) + 128; omega
    | ⟨1, _⟩ => show 128 * ((4 * (k.val / 128) + l.val / 128) % 4) ≤ l.val ∧ l.val < 128 * ((4 * (k.val / 128) + l.val / 128) % 4) + 128; omega

include he in
/-- What a grid point leaves of the sum, at an index. -/
theorem step_at (arg4 : Memref sig .tc .vmem S1024x2048 .bf16) (harg4 : arg4.IsWhole) (arg13 : Memref sig .tc .vmem S2048x512 .bf16) (x2 : Vec Ideal S1024x2048 .bf16) (acc : Vec Ideal S1024x512 .f32) (d : Fin 1024) (l : Fin 512) :
    stepOf (F := Ideal) i arg2 harg2 arg3 harg3 arg5 harg5 arg6 harg6 arg7 harg7 arg8 harg8 arg14 arg15 x0 x1 x3 x4 x5 x6 arg4 harg4 arg13 x2 acc (ix2 d l)
      = acc (ix2 d l) + ∑ k : Fin 2048, blockVal e x0 x1 x3 x4 x5 x6 k l * x2 (ix2 d k) := by
  unfold stepOf
  rw [add_at, View.readAt_eq_ld, harg4.read_unread, View.ld_unit_zero (S := S1024x2048) corner2, View.readCov_eq_canon']
  refine congrArg _ (Finset.sum_congr rfl fun k _ => congrArg (· * _) ?_)
  refine Eq.trans (congrArg _ ?_) (pieces_at i e he arg2 harg2 arg3 harg3 arg5 harg5 arg6 harg6 arg7 harg7 arg8 harg8 arg14 arg15 x0 x1 x3 x4 x5 x6 k l)
  refine funext fun a => Fin.ext ?_
  match a with
  | ⟨0, _⟩ => show 0 + 1 * k.val = k.val; omega
  | ⟨1, _⟩ => show 0 + 1 * l.val = l.val; omega

end

end Cert.PeerIdeal.Rows

end
-- ==== Proof.PeerArr.lean ====
/- The experts' call: its array is the reference's result. -/
module

public import proofs.«01_k».proof.Defs
public import proofs.«01_k».proof.Proof.PeerPay
public import proofs.«01_k».proof.Proof.Gen.PeerIdeal.Value
public import Idealize.ShloMosaic.Lib.Quiescent
public import Idealize.ShloMosaic.Lib.Pipeline.ValueKit

@[expose] public section

set_option maxRecDepth 3000

noncomputable section

namespace Cert.PeerIdeal.Rows

open Cert.PeerIdeal Cert.PeerIdeal.Gen Idealize.ShloMosaic Idealize.ShloMosaic.TcCoe Cert.Experts
open Cert.PeerReferenceIdeal.Rows (Wide scaled summed weights scaled_at summed_at weights_at)

/-- Which block of experts a grid point takes. -/
theorem coord1 : ∀ t : Fin cfg0.N, (grid0.coords t 1).val = t.val % 8 :=
  (by decide +kernel : ∀ t : Fin grid0.N, (grid0.coords t 1).val = t.val % 8)

/-- The result is written at a row block's last block of experts. -/
theorem flush9 : ∀ t : Fin cfg0.N, (cfg0.win 9).flush t = true → t.val % 8 = 7 :=
  (by decide +kernel : ∀ t : Fin grid0.N, win0_9.flush t = true → t.val % 8 = 7)

/-- Which block of the normed rows a grid point takes. -/
theorem idx0 : ∀ t : Fin cfg0.N, win0_0.index t = ![t.val / 8, 0] :=
  (by decide +kernel : ∀ t : Fin grid0.N, win0_0.index t = ![t.val / 8, 0])

/-- Which block of the experts' inputs a grid point takes. -/
theorem idx1 : ∀ t : Fin cfg0.N, win0_1.index t = ![t.val % 8, 0] :=
  (by decide +kernel : ∀ t : Fin grid0.N, win0_1.index t = ![t.val % 8, 0])

/-- Which block of the experts' outputs a grid point takes. -/
theorem idx2 : ∀ t : Fin cfg0.N, win0_2.index t = ![0, t.val % 8] :=
  (by decide +kernel : ∀ t : Fin grid0.N, win0_2.index t = ![0, t.val % 8])

/-- Which block of the first keys' scores a grid point takes. -/
theorem idx3 : ∀ t : Fin cfg0.N, win0_3.index t = ![0, 0, t.val / 8] :=
  (by decide +kernel : ∀ t : Fin grid0.N, win0_3.index t = ![0, 0, t.val / 8])

/-- Which block of the first keys' counts a grid point takes. -/
theorem idx4 : ∀ t : Fin cfg0.N, win0_4.index t = ![0, 0, t.val / 8] :=
  (by decide +kernel : ∀ t : Fin grid0.N, win0_4.index t = ![0, 0, t.val / 8])

/-- Which block of the second keys' scores a grid point takes. -/
theorem idx5 : ∀ t : Fin cfg0.N, win0_5.index t = ![0, 0, t.val / 8] :=
  (by decide +kernel : ∀ t : Fin grid0.N, win0_5.index t = ![0, 0, t.val / 8])

/-- Which block of the second keys' ranks a grid point takes. -/
theorem idx6 : ∀ t : Fin cfg0.N, win0_6.index t = ![0, 0, t.val / 8] :=
  (by decide +kernel : ∀ t : Fin grid0.N, win0_6.index t = ![0, 0, t.val / 8])

/-- Which block of the rows a grid point takes. -/
theorem idx7 : ∀ t : Fin cfg0.N, win0_7.index t = ![t.val / 8, 0] :=
  (by decide +kernel : ∀ t : Fin grid0.N, win0_7.index t = ![t.val / 8, 0])

/-- Which block of the gains a grid point takes. -/
theorem idx8 : ∀ t : Fin cfg0.N, win0_8.index t = ![0, 0] :=
  (by decide +kernel : ∀ t : Fin grid0.N, win0_8.index t = ![0, 0])

/-- Which block of the result a grid point takes. -/
theorem idx9 : ∀ t : Fin cfg0.N, win0_9.index t = ![t.val / 8, 0] :=
  (by decide +kernel : ∀ t : Fin grid0.N, win0_9.index t = ![t.val / 8, 0])

variable (m : (ℓ : Loc nD τ sig) → Buf (Elt Ideal) ℓ) (c : Dev nD)

/-- The normed rows as launched. -/
abbrev HN : Vec Ideal S16384x1024 .bf16 := m ((c : Thread nD τ).loc main_arg0)
/-- The experts' inputs as launched. -/
abbrev PU : Vec Ideal S16384x1024 .bf16 := m ((c : Thread nD τ).loc main_arg1)
/-- The experts' outputs as launched. -/
abbrev PV : Vec Ideal S1024x16384 .bf16 := m ((c : Thread nD τ).loc main_arg2)
/-- The first keys' scores as launched. -/
abbrev AN : Vec Ideal S8x128x16384 .f32 := m ((c : Thread nD τ).loc main_arg3)
/-- The first keys' counts as launched. -/
abbrev NN : Vec Ideal S8x128x16384 .f32 := m ((c : Thread nD τ).loc main_arg4)
/-- The second keys' scores as launched. -/
abbrev BN : Vec Ideal S8x128x16384 .bf16 := m ((c : Thread nD τ).loc main_arg5)
/-- The second keys' ranks as launched. -/
abbrev RK : Vec Ideal S8x128x16384 .bf16 := m ((c : Thread nD τ).loc main_arg6)
/-- The rows as launched. -/
abbrev H2 : Vec Ideal S16384x1024 .f32 := m ((c : Thread nD τ).loc main_arg7)
/-- The gains as launched. -/
abbrev GF : Vec Ideal S1x1024 .f32 := m ((c : Thread nD τ).loc main_arg8)

/-- A grid point's normed rows, at one index. -/
theorem blk0 (t : Fin cfg0.N) (l : Fin 512) (d : Fin 1024) (n : Fin 16384) (hn : n.val = 512 * (t.val / 8) + l.val) : iblk m c 0 t (ix2 l d) = HN m c (ix2 n d) := by
  unfold iblk
  blk_simp
  rw [V_main_arg0]
  refine congrArg (m ((c : Thread nD τ).loc main_arg0)) (funext fun a => Fin.ext ?_)
  match a with
  | ⟨0, _⟩ => blk_simp [idx0]; show _ = n.val; omega
  | ⟨1, _⟩ => blk_simp [idx0]

/-- A grid point's experts' inputs, at one index. -/
theorem blk1 (t : Fin cfg0.N) (k : Fin 2048) (d : Fin 1024) (e : Fin 16384) (he : e.val = 2048 * (t.val % 8) + k.val) : iblk m c 1 t (ix2 k d) = PU m c (ix2 e d) := by
  unfold iblk
  blk_simp
  rw [V_main_arg1]
  refine congrArg (m ((c : Thread nD τ).loc main_arg1)) (funext fun a => Fin.ext ?_)
  match a with
  | ⟨0, _⟩ => blk_simp [idx1]; show _ = e.val; omega
  | ⟨1, _⟩ => blk_simp [idx1]

/-- A grid point's experts' outputs, at one index. -/
theorem blk2 (t : Fin cfg0.N) (k : Fin 2048) (d : Fin 1024) (e : Fin 16384) (he : e.val = 2048 * (t.val % 8) + k.val) : iblk m c 2 t (ix2 d k) = PV m c (ix2 d e) := by
  unfold iblk
  blk_simp
  rw [V_main_arg2]
  refine congrArg (m ((c : Thread nD τ).loc main_arg2)) (funext fun a => Fin.ext ?_)
  match a with
  | ⟨0, _⟩ => blk_simp [idx2]
  | ⟨1, _⟩ => blk_simp [idx2]; show _ = e.val; omega

/-- A grid point's first keys' scores, at one index. -/
theorem blk3 (t : Fin cfg0.N) (h : Fin 8) (j : Fin 128) (l : Fin 512) (n : Fin 16384) (hn : n.val = 512 * (t.val / 8) + l.val) : iblk m c 3 t (ix3 h j l) = AN m c (ix3 h j n) := by
  unfold iblk
  blk_simp
  rw [V_main_arg3]
  refine congrArg (m ((c : Thread nD τ).loc main_arg3)) (funext fun a => Fin.ext ?_)
  match a with
  | ⟨0, _⟩ => blk_simp [idx3]
  | ⟨1, _⟩ => blk_simp [idx3]
  | ⟨2, _⟩ => blk_simp [idx3]; show _ = n.val; omega

/-- A grid point's first keys' counts, at one index. -/
theorem blk4 (t : Fin cfg0.N) (h : Fin 8) (j : Fin 128) (l : Fin 512) (n : Fin 16384) (hn : n.val = 512 * (t.val / 8) + l.val) : iblk m c 4 t (ix3 h j l) = NN m c (ix3 h j n) := by
  unfold iblk
  blk_simp
  rw [V_main_arg4]
  refine congrArg (m ((c : Thread nD τ).loc main_arg4)) (funext fun a => Fin.ext ?_)
  match a with
  | ⟨0, _⟩ => blk_simp [idx4]
  | ⟨1, _⟩ => blk_simp [idx4]
  | ⟨2, _⟩ => blk_simp [idx4]; show _ = n.val; omega

/-- A grid point's second keys' scores, at one index. -/
theorem blk5 (t : Fin cfg0.N) (h : Fin 8) (j : Fin 128) (l : Fin 512) (n : Fin 16384) (hn : n.val = 512 * (t.val / 8) + l.val) : iblk m c 5 t (ix3 h j l) = BN m c (ix3 h j n) := by
  unfold iblk
  blk_simp
  rw [V_main_arg5]
  refine congrArg (m ((c : Thread nD τ).loc main_arg5)) (funext fun a => Fin.ext ?_)
  match a with
  | ⟨0, _⟩ => blk_simp [idx5]
  | ⟨1, _⟩ => blk_simp [idx5]
  | ⟨2, _⟩ => blk_simp [idx5]; show _ = n.val; omega

/-- A grid point's second keys' ranks, at one index. -/
theorem blk6 (t : Fin cfg0.N) (h : Fin 8) (j : Fin 128) (l : Fin 512) (n : Fin 16384) (hn : n.val = 512 * (t.val / 8) + l.val) : iblk m c 6 t (ix3 h j l) = RK m c (ix3 h j n) := by
  unfold iblk
  blk_simp
  rw [V_main_arg6]
  refine congrArg (m ((c : Thread nD τ).loc main_arg6)) (funext fun a => Fin.ext ?_)
  match a with
  | ⟨0, _⟩ => blk_simp [idx6]
  | ⟨1, _⟩ => blk_simp [idx6]
  | ⟨2, _⟩ => blk_simp [idx6]; show _ = n.val; omega

/-- A grid point's rows, at one index. -/
theorem blk7 (t : Fin cfg0.N) (l : Fin 512) (d : Fin 1024) (n : Fin 16384) (hn : n.val = 512 * (t.val / 8) + l.val) : iblk m c 7 t (ix2 l d) = H2 m c (ix2 n d) := by
  unfold iblk
  blk_simp
  rw [V_main_arg7]
  refine congrArg (m ((c : Thread nD τ).loc main_arg7)) (funext fun a => Fin.ext ?_)
  match a with
  | ⟨0, _⟩ => blk_simp [idx7]; show _ = n.val; omega
  | ⟨1, _⟩ => blk_simp [idx7]

/-- A grid point's gains are all of them. -/
theorem blk8 (t : Fin cfg0.N) : iblk m c 8 t = GF m c := by
  funext y
  unfold iblk
  blk_simp
  rw [V_main_arg8]
  refine congrArg (m ((c : Thread nD τ).loc main_arg8)) (funext fun a => Fin.ext ?_)
  match a with
  | ⟨0, _⟩ => blk_simp [idx8]
  | ⟨1, _⟩ => blk_simp [idx8]

/-- The reference's weights. -/
abbrev WT : Wide := weights (HN m c) (PU m c) (AN m c) (NN m c) (BN m c) (RK m c)

/-- What one expert adds to one entry of a row. -/
def term (n : Fin 16384) (d : Fin 1024) (x : ℕ) : EReal :=
  if h : x < 16384 then WT m c (ix2 n ⟨x, h⟩) * PV m c (ix2 d ⟨x, h⟩) else 0

/-- What one expert of a block adds. -/
theorem term_at (t : Fin cfg0.N) (l : Fin 512) (d : Fin 1024) (n : Fin 16384) (hn : n.val = 512 * (t.val / 8) + l.val) (k : Fin 2048) :
    blockVal ⟨t.val % 8, by omega⟩ (iblk m c 0 t) (iblk m c 1 t) (iblk m c 3 t) (iblk m c 4 t) (iblk m c 5 t) (iblk m c 6 t) k l * iblk m c 2 t (ix2 d k)
      = term m c n d (2048 * (t.val % 8) + k.val) := by
  have hk := k.isLt
  have he : 2048 * (t.val % 8) + k.val < 16384 := by omega
  unfold term blockVal WT
  rw [dif_pos he, weights_at, blk2 m c t k d ⟨_, he⟩ rfl]
  simp only [blk0 m c t l _ n hn, blk1 m c t k _ ⟨_, he⟩ rfl, blk3 m c t _ _ l n hn, blk4 m c t _ _ l n hn, blk5 m c t _ _ l n hn, blk6 m c t _ _ l n hn]
  have e1 : (⟨(2048 * (t.val % 8) + k.val) / 128, by omega⟩ : Fin 128) = ⟨16 * (t.val % 8) + k.val / 128, by omega⟩ :=
    Fin.ext (by show (2048 * (t.val % 8) + k.val) / 128 = 16 * (t.val % 8) + k.val / 128; omega)
  have e2 : (⟨(2048 * (t.val % 8) + k.val) % 128, by omega⟩ : Fin 128) = ⟨k.val % 128, by omega⟩ :=
    Fin.ext (by show (2048 * (t.val % 8) + k.val) % 128 = k.val % 128; omega)
  simp only [e1, e2]

/-- What a grid point leaves of the sum it is handed. -/
theorem step_sum (t : Fin cfg0.N) (l : Fin 512) (d : Fin 1024) (n : Fin 16384) (hn : n.val = 512 * (t.val / 8) + l.val) (acc : Vec Ideal S1024x512 .f32)
    (hacc : acc (ix2 d l) = ∑ x ∈ Finset.range (2048 * (t.val % 8)), term m c n d x) :
    stepOf (F := Ideal) (grid0.coords t) (ms0_0 t) (hs0_0 t) (ms0_1 t) (hs0_1 t) (ms0_3 t) (hs0_3 t) (ms0_4 t) (hs0_4 t) (ms0_5 t) (hs0_5 t) (ms0_6 t) (hs0_6 t)
        scM0_2 scM0_3 (iblk m c 0 t) (iblk m c 1 t) (iblk m c 3 t) (iblk m c 4 t) (iblk m c 5 t) (iblk m c 6 t) (ms0_2 t) (hs0_2 t) scM0_1 (iblk m c 2 t) acc (ix2 d l)
      = ∑ x ∈ Finset.range (2048 * (t.val % 8) + 2048), term m c n d x := by
  rw [step_at (grid0.coords t) ⟨t.val % 8, by omega⟩ (coord1 t), hacc, Finset.sum_range_add]
  refine congrArg _ (Eq.trans (Finset.sum_congr rfl fun k _ => term_at m c t l d n hn k) ?_)
  exact Fin.sum_univ_eq_sum_range (fun x => term m c n d (2048 * (t.val % 8) + x)) 2048

/-- The sum after a row block's first step. -/
theorem snd_A (t : Fin cfg0.N) (h0 : t.val % 8 = 0) (h1 : ¬t.val % 8 = 7) :
    (outsAt0 m c t.val t.isLt).2 = stepOf (F := Ideal) (grid0.coords t) (ms0_0 t) (hs0_0 t) (ms0_1 t) (hs0_1 t) (ms0_3 t) (hs0_3 t) (ms0_4 t) (hs0_4 t) (ms0_5 t) (hs0_5 t) (ms0_6 t) (hs0_6 t)
        scM0_2 scM0_3 (iblk m c 0 t) (iblk m c 1 t) (iblk m c 3 t) (iblk m c 4 t) (iblk m c 5 t) (iblk m c 6 t) (ms0_2 t) (hs0_2 t) scM0_1 (iblk m c 2 t) (k0_pay3 (F := Ideal)) := by
  rw [outsAt0_A m c t h0 h1]
  dsimp only
  rw [sum_A]

/-- The sum after a row block's middle step. -/
theorem snd_B (t : Fin cfg0.N) (h0 : ¬t.val % 8 = 0) (h1 : ¬t.val % 8 = 7) :
    (outsAt0 m c t.val t.isLt).2 = stepOf (F := Ideal) (grid0.coords t) (ms0_0 t) (hs0_0 t) (ms0_1 t) (hs0_1 t) (ms0_3 t) (hs0_3 t) (ms0_4 t) (hs0_4 t) (ms0_5 t) (hs0_5 t) (ms0_6 t) (hs0_6 t)
        scM0_2 scM0_3 (iblk m c 0 t) (iblk m c 1 t) (iblk m c 3 t) (iblk m c 4 t) (iblk m c 5 t) (iblk m c 6 t) (ms0_2 t) (hs0_2 t) scM0_1 (iblk m c 2 t) (outsAt0 m c (t.val - 1) (Nat.lt_of_le_of_lt (Nat.sub_le _ _) t.isLt)).2 := by
  rw [outsAt0_B m c t h0 h1]
  dsimp only
  rw [sum_B]

/-- The sum after a row block's last step. -/
theorem snd_C (t : Fin cfg0.N) (h0 : ¬t.val % 8 = 0) (h1 : t.val % 8 = 7) :
    (outsAt0 m c t.val t.isLt).2 = stepOf (F := Ideal) (grid0.coords t) (ms0_0 t) (hs0_0 t) (ms0_1 t) (hs0_1 t) (ms0_3 t) (hs0_3 t) (ms0_4 t) (hs0_4 t) (ms0_5 t) (hs0_5 t) (ms0_6 t) (hs0_6 t)
        scM0_2 scM0_3 (iblk m c 0 t) (iblk m c 1 t) (iblk m c 3 t) (iblk m c 4 t) (iblk m c 5 t) (iblk m c 6 t) (ms0_2 t) (hs0_2 t) scM0_1 (iblk m c 2 t) (outsAt0 m c (t.val - 1) (Nat.lt_of_le_of_lt (Nat.sub_le _ _) t.isLt)).2 := by
  rw [outsAt0_C m c t h0 h1]
  dsimp only
  rw [sum_C]

/-- The result after a row block's last step. -/
theorem fst_C (t : Fin cfg0.N) (h0 : ¬t.val % 8 = 0) (h1 : t.val % 8 = 7) :
    (outsAt0 m c t.val t.isLt).1 = k0_pay2 (F := Ideal) (iblk m c 7 t) (stepOf (F := Ideal) (grid0.coords t) (ms0_0 t) (hs0_0 t) (ms0_1 t) (hs0_1 t) (ms0_3 t) (hs0_3 t) (ms0_4 t) (hs0_4 t) (ms0_5 t) (hs0_5 t) (ms0_6 t) (hs0_6 t)
        scM0_2 scM0_3 (iblk m c 0 t) (iblk m c 1 t) (iblk m c 3 t) (iblk m c 4 t) (iblk m c 5 t) (iblk m c 6 t) (ms0_2 t) (hs0_2 t) scM0_1 (iblk m c 2 t) (outsAt0 m c (t.val - 1) (Nat.lt_of_le_of_lt (Nat.sub_le _ _) t.isLt)).2) (iblk m c 8 t) := by
  rw [outsAt0_C m c t h0 h1]
  dsimp only
  rw [out_C]

/-- The sum carried past a grid point. -/
theorem carried (v : ℕ) (hv : v < cfg0.N) (l : Fin 512) (d : Fin 1024) (n : Fin 16384) (hn : n.val = 512 * (v / 8) + l.val) :
    (outsAt0 m c v hv).2 (ix2 d l) = ∑ x ∈ Finset.range (2048 * (v % 8) + 2048), term m c n d x := by
  induction v with
  | zero =>
    refine (congrFun (snd_A m c ⟨0, hv⟩ (Nat.zero_mod 8) (by show ¬0 % 8 = 7; omega)) (ix2 d l)).trans ?_
    exact step_sum m c ⟨0, hv⟩ l d n hn _ ((pay3_at d l).trans (by simp))
  | succ v ih =>
    by_cases h0 : (v + 1) % 8 = 0
    · refine (congrFun (snd_A m c ⟨v + 1, hv⟩ h0 (by show ¬(v + 1) % 8 = 7; omega)) (ix2 d l)).trans ?_
      refine step_sum m c ⟨v + 1, hv⟩ l d n hn _ ((pay3_at d l).trans ?_)
      show 0 = ∑ x ∈ Finset.range (2048 * ((v + 1) % 8)), term m c n d x
      rw [h0]
      simp
    · have hp := ih (Nat.lt_of_succ_lt hv) (by omega)
      have hs : 2048 * (v % 8) + 2048 = 2048 * ((v + 1) % 8) := by omega
      rw [hs] at hp
      by_cases h1 : (v + 1) % 8 = 7
      · refine (congrFun (snd_C m c ⟨v + 1, hv⟩ h0 h1) (ix2 d l)).trans ?_
        exact step_sum m c ⟨v + 1, hv⟩ l d n hn _ hp
      · refine (congrFun (snd_B m c ⟨v + 1, hv⟩ h0 h1) (ix2 d l)).trans ?_
        exact step_sum m c ⟨v + 1, hv⟩ l d n hn _ hp

/-- One entry of the result a grid point writes. -/
theorem written (t : Fin cfg0.N) (h1 : t.val % 8 = 7) (l : Fin 512) (d : Fin 1024) (n : Fin 16384) (hn : n.val = 512 * (t.val / 8) + l.val) :
    (outsAt0 m c t.val t.isLt).1 (ix2 l d) = scaled (summed (WT m c) (PV m c) (H2 m c)) (GF m c) (ix2 n d) := by
  have h0 : ¬t.val % 8 = 0 := by omega
  have hs := snd_C m c t h0 h1
  refine (congrFun (fst_C m c t h0 h1) (ix2 l d)).trans ?_
  rw [blk8, ← hs]
  refine pay2_at (iblk m c 7 t) _ (GF m c) l n _ (fun d => ?_) d
  rw [summed_at, blk7 m c t l d n hn, carried m c t.val t.isLt l d n hn, h1]
  refine congrArg _ ?_
  refine (Fin.sum_univ_eq_sum_range (term m c n d) 16384).symm.trans (Finset.sum_congr rfl fun e _ => ?_)
  unfold term
  rw [dif_pos e.isLt]

/-- The array of the result. -/
theorem array9 : (dats m 0 c).arrAt 9 cfg0.N = scaled (summed (WT m c) (PV m c) (H2 m c)) (GF m c) := by
  refine (dats m 0 c).arrAt_eq_of_covers 9 _ (by decide +kernel) fun t hf y => ?_
  blk_simp
  rw [after0_9]
  have e0 : (((cfg0.win 9).blk t).view.emb y 0 : Fin 16384).val = 512 * (t.val / 8) + (y 0).val := by
    blk_simp [idx9]; omega
  have e1 : (((cfg0.win 9).blk t).view.emb y 1 : Fin 1024) = (y 1 : Fin 1024) := Fin.ext (by
    blk_simp [idx9])
  refine (congrArg _ (eq_ix2 (n0 := 512) (n1 := 1024) y)).trans ?_
  refine (written m c t (flush9 t hf) (y 0) (y 1) (((cfg0.win 9).blk t).view.emb y 0 : Fin 16384) e0).trans ?_
  rw [← e1]
  exact congrArg _ (eq_ix2 (n0 := 16384) (n1 := 1024) (((cfg0.win 9).blk t).view.emb y)).symm

end Cert.PeerIdeal.Rows

namespace Cert.Claims

open Idealize.ShloMosaic Idealize.ShloMosaic.TcCoe Idealize.SL.Sem

/-- The reference of the experts' call runs, its arguments unchanged and every counter at zero. -/
theorem frame_peer_reference : Cert.quiescent_PeerReferenceIdeal := fun m ρ _ =>
  (θ_run Cert.PeerReferenceIdeal.defs _ _).mono (fun r h => ⟨fun c => (h c).2, Idealize.ShloMosaic.sem_eq_zero_of_no_sems (by decide) r.2⟩)
    (Cert.PeerReferenceIdeal.Value.run (F := Ideal) m ρ)

/-- The kernel and the reference end with equal results of that call. -/
theorem algebraic_peer : Cert.algebraic_PeerIdeal_PeerReferenceIdeal := by
  intro m g m' g' hpre harg
  refine ⟨_, Cert.PeerIdeal.Value.run_blocks (F := Ideal) m g, ?_⟩
  refine (θ_run Cert.PeerReferenceIdeal.defs _ _).mono (fun r h c => ⟨(h c).1.trans ?_, (h c).2⟩)
    (Cert.PeerReferenceIdeal.Value.run (F := Ideal) m' g')
  rw [Cert.PeerReferenceIdeal.Rows.res_eq, (harg c).1, (harg c).2.1, (harg c).2.2.1, (harg c).2.2.2.1, (harg c).2.2.2.2.1, (harg c).2.2.2.2.2.1, (harg c).2.2.2.2.2.2.1, (harg c).2.2.2.2.2.2.2.1, (harg c).2.2.2.2.2.2.2.2]
  exact (Cert.PeerIdeal.Rows.array9 m c).symm

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_scores
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Peer
public import proofs.«01_k».proof.Proof.Gen.Peer.Skeleton
public import proofs.«01_k».proof.Proof.Gen.Peer.Launch
public import proofs.«01_k».proof.Proof.Gen.Peer.Points
public import proofs.«01_k».proof.Proof.Gen.Peer.Frame
public import proofs.«01_k».proof.Proof.Gen.PeerIdeal
public import proofs.«01_k».proof.Proof.Gen.PeerIdeal.Skeleton
public import proofs.«01_k».proof.Proof.Gen.PeerIdeal.Launch
public import proofs.«01_k».proof.Proof.Gen.PeerIdeal.Points
public import proofs.«01_k».proof.Proof.Gen.PeerIdeal.Frame
public import proofs.«01_k».proof.Proof.Gen.PeerIdeal.Value
public import proofs.«01_k».proof.Proof.Gen.PeerReferenceIdeal
public import proofs.«01_k».proof.Proof.Gen.PeerReferenceIdeal.Run
public import proofs.«01_k».proof.Proof.Claims
public import proofs.«01_k».proof.Proof.In
public import proofs.«01_k».proof.Proof.Mem
public import proofs.«01_k».proof.Proof.MixArr
public import proofs.«01_k».proof.Proof.PeerArr
public import Idealize.ShloMosaic.Adequacy
public import Idealize.ShloMosaic.Init

@[expose] public section

noncomputable section

namespace Cert.Proof

open Idealize.ShloMosaic Idealize.SL.Sem Cert.Kernel

/-- Everything claimed, together. -/
theorem claim : Cert.Claim := ⟨Cert.Kernel.Gen.facts, Cert.KernelIdeal.Gen.facts, Cert.ReferenceIdeal.Gen.facts, Cert.InProj.Gen.facts, Cert.InProjIdeal.Gen.facts, Cert.InProjReferenceIdeal.Gen.facts, Cert.MemKv.Gen.facts, Cert.MemKvIdeal.Gen.facts, Cert.MemKvReferenceIdeal.Gen.facts, Cert.Mix.Gen.facts, Cert.MixIdeal.Gen.facts, Cert.MixReferenceIdeal.Gen.facts, Cert.Peer.Gen.facts, Cert.PeerIdeal.Gen.facts, Cert.PeerReferenceIdeal.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  fun m ρ _ => Cert.Claims.frame_reference m ρ, fun m ρ _ => Cert.Claims.frame_reference m ρ,
  fun m ρ _ => Cert.InProj.Gen.frame m ρ, fun m ρ _ => Cert.InProjIdeal.Gen.frame m ρ, Cert.Claims.frame_in_reference,
  fun m ρ _ => Cert.MemKv.Gen.frame m ρ, fun m ρ _ => Cert.MemKvIdeal.Gen.frame m ρ, Cert.Claims.frame_mem_reference,
  fun m ρ _ => Cert.Mix.Gen.frame m ρ, fun m ρ _ => Cert.MixIdeal.Gen.frame m ρ, Cert.Claims.frame_mix_reference,
  fun m ρ _ => Cert.Peer.Gen.frame m ρ, fun m ρ _ => Cert.PeerIdeal.Gen.frame m ρ, Cert.Claims.frame_peer_reference,
  Cert.Claims.preserves, Cert.Claims.algebraic,
  trivial, Cert.Claims.algebraic_in, trivial, Cert.Claims.algebraic_mem, trivial, Cert.Claims.algebraic_mix, trivial, Cert.Claims.algebraic_peer⟩

end Cert.Proof

end
